-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x8192 : Shape := ⟨2, ![4, 8192]⟩
abbrev S100x128 : Shape := ⟨2, ![100, 128]⟩
abbrev S128x128 : Shape := ⟨2, ![128, 128]⟩
abbrev S128 : Shape := ⟨1, ![128]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : IVec S4x8192 32) (main_arg1 : FVec F S100x128 .f32) (main_arg2 : FVec F S128x128 .f32) (main_arg3 : FVec F S128 .f32) (main_arg4 : FVec F S128x128 .f32) (main_arg5 : FVec F S128 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 100#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S4x8192 : Shape := ⟨2, ![4, 8192]⟩
abbrev S100x128 : Shape := ⟨2, ![100, 128]⟩
abbrev S128x128 : Shape := ⟨2, ![128, 128]⟩
abbrev S128 : Shape := ⟨1, ![128]⟩
abbrev S_ : Shape := ⟨0, ![]⟩
abbrev S1 : Shape := ⟨1, ![1]⟩
abbrev S1x128 : Shape := ⟨2, ![1, 128]⟩
abbrev S256x128 : Shape := ⟨2, ![256, 128]⟩
abbrev S32768x128 : Shape := ⟨2, ![32768, 128]⟩
abbrev S8x128 : Shape := ⟨2, ![8, 128]⟩
abbrev S4x8192x128 : Shape := ⟨3, ![4, 8192, 128]⟩

abbrev nBuf : Table → Nat
  | .hbm => 24
  | .local .tc .vmem => 7
  | .local .scVector .vmem => 2
  | _ => 0

abbrev bufTy : (tb : Table) → Fin (nBuf tb) → BufTy
  | .hbm, ⟨0, _⟩ => ⟨S4x8192, .i32⟩
  | .hbm, ⟨1, _⟩ => ⟨S100x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S1, .i32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S128x128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S256x128, .i32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S4x8192x128, .f32⟩
  | .hbm, ⟨22, _⟩ => ⟨S4x8192x128, .f32⟩
  | .hbm, ⟨23, _⟩ => ⟨S4x8192x128, .f32⟩
  | .local .tc .vmem, ⟨0, _⟩ => ⟨S128x128, .f32⟩
  | .local .tc .vmem, ⟨1, _⟩ => ⟨S128x128, .f32⟩
  | .local .tc .vmem, ⟨2, _⟩ => ⟨S1x128, .f32⟩
  | .local .tc .vmem, ⟨3, _⟩ => ⟨S128x128, .f32⟩
  | .local .tc .vmem, ⟨4, _⟩ => ⟨S1x128, .f32⟩
  | .local .tc .vmem, ⟨5, _⟩ => ⟨S128x128, .f32⟩
  | .local .tc .vmem, ⟨6, _⟩ => ⟨S128x128, .f32⟩
  | .local .scVector .vmem, ⟨0, _⟩ => ⟨S8x128, .i32⟩
  | .local .scVector .vmem, ⟨1, _⟩ => ⟨S128x128, .f32⟩
  | _, _ => ⟨S4x8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v8_scv : Ref sig .scVector := ⟨.hbm, 17, rfl⟩
abbrev main_v2_scv : Ref sig .scVector := ⟨.hbm, 10, rfl⟩
abbrev main_v7_0_scv : Ref sig .scVector := ⟨.hbm, 15, rfl⟩
abbrev main_v7_1_scv : Ref sig .scVector := ⟨.hbm, 16, rfl⟩
abbrev main_v9_0_scv : Ref sig .scVector := ⟨.hbm, 18, rfl⟩
abbrev main_v9_1_scv : Ref sig .scVector := ⟨.hbm, 19, rfl⟩
abbrev main_v9_2_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_202_r0 : BitVec 32 := 0#32
  ![v3.toNat, 0]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v10 : BitVec 32 := Scalar.addi v2 c0_i32_7
  let c0_i32_202_r1 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S100x128 : Shape := ⟨2, ![100, 128]⟩
abbrev S128x128 : Shape := ⟨2, ![128, 128]⟩
abbrev S128 : Shape := ⟨1, ![128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S100x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S4x8192, .i32⟩
  | .hbm, ⟨8, _⟩ => ⟨S4x8192, .i1⟩
  | .hbm, ⟨9, _⟩ => ⟨S_, .i32⟩
  | .hbm, ⟨10, _⟩ => ⟨S4x8192, .i32⟩
  | .hbm, ⟨11, _⟩ => ⟨S4x8192, .i32⟩
  | .hbm, ⟨12, _⟩ => ⟨S4x8192, .i32⟩
  | .hbm, ⟨13, _⟩ => ⟨S4x8192x1, .i32⟩
  | .hbm, ⟨14, _⟩ => ⟨S1, .i32⟩
  | .hbm, ⟨15, _⟩ => ⟨S_, .i32⟩
  | .hbm, ⟨16, _⟩ => ⟨S4x8192x1, .i32⟩
  | .hbm, ⟨17, _⟩ => ⟨S4x8192x1, .i1⟩
  | .hbm, ⟨18, _⟩ => ⟨S1x1x1, .i32⟩
  | .hbm, ⟨19, _⟩ => ⟨S4x8192x1, .i32⟩
  | .hbm, ⟨20, _⟩ => ⟨S4x8192x1, .i1⟩
  | .hbm, ⟨21, _⟩ => ⟨S4x8192x1, .i1⟩
  | .hbm, ⟨22, _⟩ => ⟨S_, .i1⟩
  | .hbm, ⟨23, _⟩ => ⟨S4x8192, .i1⟩
  | .hbm, ⟨24, _⟩ => ⟨S4x8192x128, .f32⟩
  | .hbm, ⟨25, _⟩ => ⟨S4x8192x128, .i1⟩
  | .hbm, ⟨26, _⟩ => ⟨S_, .f32⟩
  | .hbm, ⟨27, _⟩ => ⟨S4x8192x128, .f32⟩
  | .hbm, ⟨28, _⟩ => ⟨S4x8192x128, .f32⟩
  | .hbm, ⟨29, _⟩ => ⟨S128x128, .f32⟩
  | .hbm, ⟨30, _⟩ => ⟨S4x8192x128, .f32⟩
  | .hbm, ⟨31, _⟩ => ⟨S1x1x128, .f32⟩
  | .hbm, ⟨32, _⟩ => ⟨S4x8192x128, .f32⟩
  | .hbm, ⟨33, _⟩ => ⟨S4x8192x128, .f32⟩
  | .hbm, ⟨34, _⟩ => ⟨S128x128, .f32⟩
  | .hbm, ⟨35, _⟩ => ⟨S4x8192x128, .f32⟩
  | .hbm, ⟨36, _⟩ => ⟨S1x1x128, .f32⟩
  | .hbm, ⟨37, _⟩ => ⟨S4x8192x128, .f32⟩
  | .hbm, ⟨38, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.Range.lean ====
/-
  What the precondition says of the row numbers.
-/
module

public import proofs.«01_k».proof.Proof.Gen.Pre_in_range
public import Idealize.ShloMosaic.Lib.ReduceAll

@[expose] public section

noncomputable section

namespace Cert.Proof.Range

open Cert.Pre_in_range Cert.Pre_in_range.Gen
open Idealize.ShloMosaic

variable {F : FTy → Type} [FloatOps F]

/-- The `and` of two bits. -/
theorem bit_and : ∀ a b : Bool, IntOp.andi (BitVec.ofBool a) (BitVec.ofBool b) = BitVec.ofBool (a && b) := by decide
/-- A bit is one exactly when it stands for true. -/
theorem bit_one : ∀ a : Bool, BitVec.ofBool a = 1#1 ↔ a = true := by decide

/-- A word at least zero and below 100, both read signed, is below 100 read unsigned. -/
theorem word_lt (v : BitVec 32) (e : IntOp.andi (IntOp.cmpi .sge v 0#32) (IntOp.cmpi .slt v 100#32) = 1#1) : v.toNat < 100 := by
  simp only [IntOp.cmpi, bit_and, bit_one, Bool.and_eq_true, BitVec.sle_eq_decide, BitVec.slt_eq_decide, decide_eq_true_eq,
    BitVec.toInt_eq_toNat_cond, BitVec.toNat_ofNat, Nat.reducePow, Nat.reduceMod] at e
  omega

/-- Under the precondition every row number is below 100. -/
theorem ids_lt (ids : IVec S4x8192 32) (a1 : FVec F S100x128 .f32) (a2 : FVec F S128x128 .f32) (a3 : FVec F S128 .f32)
    (a4 : FVec F S128x128 .f32) (a5 : FVec F S128 .f32) (h : fn ids a1 a2 a3 a4 a5 = fun _ => 1#1) (i : S4x8192.Idx) : (ids i).toNat < 100 := by
  have : Subsingleton S_.Idx := ⟨fun a b => funext fun x => x.elim0⟩
  have e := Host.reduce_andi_all _ _ _ _ _ (congrFun h (fun x => x.elim0)) i
  exact word_lt _ e

end Cert.Proof.Range

end
-- ==== Proof.BodyI.lean ====
/-
  The vector subcores' task as a short loop: the fetch of the task's eight rows of row numbers, then for each of the
  three tables the same eight steps, each a gather of 128 table rows into the row scratch and a write-out of them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.RunI

open Cert.KernelIdeal Cert.KernelIdeal.Gen
open Idealize.ShloMosaic
open Idealize.SL Idealize.SL.Sem

variable {F : FTy → Type} [FloatOps F]

/-! ## The buffers as the tasks address them -/

/-- The row numbers, in 256 rows of 128. -/
abbrev idsV : Memref sig .scVector .hbm S256x128 .i32 := Memref.whole main_v8_scv
/-- The three tables. -/
abbrev tab0 : Memref sig .scVector .hbm S128x128 .f32 := Memref.whole main_v2_scv
abbrev tab1 : Memref sig .scVector .hbm S128x128 .f32 := Memref.whole main_v7_0_scv
abbrev tab2 : Memref sig .scVector .hbm S128x128 .f32 := Memref.whole main_v7_1_scv
/-- The three outputs. -/
abbrev out0 : Memref sig .scVector .hbm S32768x128 .f32 := Memref.whole main_v9_0_scv
abbrev out1 : Memref sig .scVector .hbm S32768x128 .f32 := Memref.whole main_v9_1_scv
abbrev out2 : Memref sig .scVector .hbm S32768x128 .f32 := Memref.whole main_v9_2_scv
/-- The subcore's scratch: its eight rows of row numbers, and 128 gathered rows. -/
abbrev numV : Memref sig .scVector .vmem S8x128 .i32 := Memref.whole cc1_scratch0
abbrev rowV : Memref sig .scVector .vmem S128x128 .f32 := Memref.whole cc1_scratch1

/-- The DMA semaphore on which the tables' rows come in. -/
abbrev gsem : DmaSem sig := cc1_scratch2.sem
/-- The DMA semaphore of the fetch of the row numbers. -/
abbrev fsem : DmaSem sig := cc1_scoped0.sem
/-- The DMA semaphores of the write-outs, table by table. -/
def wsem0 : Fin 8 → DmaSem sig :=
  ![cc1_scoped1.sem, cc1_scoped2.sem, cc1_scoped3.sem, cc1_scoped4.sem, cc1_scoped5.sem, cc1_scoped6.sem, cc1_scoped7.sem, cc1_scoped8.sem]
def wsem1 : Fin 8 → DmaSem sig :=
  ![cc1_scoped9.sem, cc1_scoped10.sem, cc1_scoped11.sem, cc1_scoped12.sem, cc1_scoped13.sem, cc1_scoped14.sem, cc1_scoped15.sem, cc1_scoped16.sem]
def wsem2 : Fin 8 → DmaSem sig :=
  ![cc1_scoped17.sem, cc1_scoped18.sem, cc1_scoped19.sem, cc1_scoped20.sem, cc1_scoped21.sem, cc1_scoped22.sem, cc1_scoped23.sem, cc1_scoped24.sem]

/-- The processor a task runs on. -/
abbrev cV (i : grid1.Coords) : Fin τ.nSC := (i 0).castLE hcore1
abbrev jV (i : grid1.Coords) : Fin τ.nSub := (i 1).castLE hsub1

/-- The task's eight rows of row numbers. -/
abbrev idsRows (i : grid1.Coords) : Memref sig .scVector .hbm S8x128 .i32 :=
  idsV.slice (Rect.unit (s := S256x128) (k1_off1 i) S8x128.size (k1_off1_inb i)) (fun _ => rfl)
/-- Row `r` of the scratch of row numbers lies in it. -/
theorem numRow_inb (r : Fin 8) : ∀ a, (![r.val, 0] : Fin 2 → Nat) a + S1x128.size a ≤ S8x128.size a := by
  revert r; decide
/-- Row `r` of the scratch of row numbers, as a list. -/
abbrev numRow (r : Fin 8) : Memref sig .scVector .vmem S128 .i32 :=
  (numV.slice (Rect.unit (s := S8x128) ![r.val, 0] S1x128.size (numRow_inb r)) (fun _ => rfl)).squeeze S128 squeezes_S1x128_S128
/-- All of a table, as the gathers address it. -/
abbrev tabAll (tab : Memref sig .scVector .hbm S128x128 .f32) : Memref sig .scVector .hbm S128x128 .f32 :=
  tab.slice (Rect.unit (s := S128x128) ![0, 0] S128x128.size inb_S128x128_S128x128_0_0) (fun _ => rfl)
/-- The 128 rows of an output that step `r` of the task writes. -/
abbrev outRows (out : Memref sig .scVector .hbm S32768x128 .f32) (i : grid1.Coords) (r : Fin 8) : Memref sig .scVector .hbm S128x128 .f32 :=
  out.slice (Rect.unit (s := S32768x128) (k1_off2 i (BitVec.ofNat 32 (128 * r.val))) S128x128.size (k1_off2_inb i r)) (fun _ => rfl)

/-! ## The program -/

/-- The fetch of the row numbers. -/
def fetchP (i : grid1.Coords) : Prog (TpuEff nD τ sig (Elt F) Λ₀ (.scVector (cV i) (jV i))) PUnit := do
  Prog.lift (.enqueueDma (idsRows i) (.here numV) (.dma fsem) (View.wordExact_bits rfl) (Memref.isWhole_whole _).wordExact ⟨Or.inl rfl, trivial⟩)
  Prog.lift (.waitDma2 fsem (idsRows i) numV (View.wordExact_bits rfl) (Memref.isWhole_whole _).wordExact)

/-- One step: 128 rows of `tab` gathered into the row scratch, and those written to the output's rows. -/
def stepP (i : grid1.Coords) (tab : Memref sig .scVector .hbm S128x128 .f32) (out : Memref sig .scVector .hbm S32768x128 .f32)
    (ws : Fin 8 → DmaSem sig) (r : Fin 8) : Prog (TpuEff nD τ sig (Elt F) Λ₀ (.scVector (cV i) (jV i))) PUnit := do
  SparseCore.enqueueIndirectGather rfl (tabAll tab) rowV gathers_S128x128_S128x128 (numRow r) rfl gsem (View.wordExact_bits rfl) rfl (Or.inl rfl)
  SparseCore.waitIndirectGather gsem (tabAll tab) rowV (View.wordExact_bits rfl) (Memref.isWhole_whole _).wordExact
  Prog.lift (.enqueueDma rowV (.here (outRows out i r)) (.dma (ws r)) (Memref.isWhole_whole _).wordExact (View.wordExact_bits rfl) ⟨Or.inl rfl, trivial⟩)
  Prog.lift (.waitDma2 (ws r) rowV (outRows out i r) (Memref.isWhole_whole _).wordExact (View.wordExact_bits rfl))

/-- The steps of a list, one after another. -/
def stepsP (i : grid1.Coords) (tab : Memref sig .scVector .hbm S128x128 .f32) (out : Memref sig .scVector .hbm S32768x128 .f32)
    (ws : Fin 8 → DmaSem sig) : List (Fin 8) → Prog (TpuEff nD τ sig (Elt F) Λ₀ (.scVector (cV i) (jV i))) PUnit
  | [] => pure ⟨⟩
  | r :: l => stepP i tab out ws r >>= fun _ => stepsP i tab out ws l

/-- The eight steps of a table. -/
abbrev eight : List (Fin 8) := [0, 1, 2, 3, 4, 5, 6, 7]

/-- The whole task. -/
def taskP (i : grid1.Coords) : Prog (TpuEff nD τ sig (Elt F) Λ₀ (.scVector (cV i) (jV i))) PUnit := do
  fetchP i
  stepsP i tab0 out0 wsem0 eight
  stepsP i tab1 out1 wsem1 eight
  stepsP i tab2 out2 wsem2 eight

set_option maxRecDepth 65536 in
set_option maxHeartbeats 4000000 in
/-- The printed task is the short loop. -/
theorem sc_gather_eq (i : grid1.Coords) :
    cc1_sc_gather (F := F) i idsV (Memref.isWhole_whole _) tab0 (Memref.isWhole_whole _) tab1 (Memref.isWhole_whole _) tab2 (Memref.isWhole_whole _)
      out0 (Memref.isWhole_whole _) out1 (Memref.isWhole_whole _) out2 (Memref.isWhole_whole _) numV (Memref.isWhole_whole _) rowV (Memref.isWhole_whole _)
      cc1_scratch2 cc1_scoped0 cc1_scoped1 cc1_scoped2 cc1_scoped3 cc1_scoped4 cc1_scoped5 cc1_scoped6 cc1_scoped7 cc1_scoped8 cc1_scoped9 cc1_scoped10
      cc1_scoped11 cc1_scoped12 cc1_scoped13 cc1_scoped14 cc1_scoped15 cc1_scoped16 cc1_scoped17 cc1_scoped18 cc1_scoped19 cc1_scoped20 cc1_scoped21
      cc1_scoped22 cc1_scoped23 cc1_scoped24 = taskP i := rfl

end Cert.Proof.RunI

end
-- ==== Proof.TileI.lean ====
/-
  The vector subcores' task: what one step does, what a table's eight steps do, and what the whole task does with the
  contents it leaves in the outputs.
-/
module

public import proofs.«01_k».proof.Proof.BodyI
public import Idealize.ShloMosaic.Lib.ValueIdx

@[expose] public section

noncomputable section

namespace Cert.Proof.RunI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCores' call meets the launch's own conditions. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := Idealize.ShloMosaic.UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## One task -/

/-- The row numbers the task fetches. -/
abbrev nums (i : grid1.Coords) (ids : S256x128.Idx → Elt F .i32) : S8x128.Idx → Elt F .i32 :=
  (idsRows i).view.read (Elt F) ids

/-- The row numbers a list names are rows of a table. -/
abbrev InTab (i : grid1.Coords) (ids : S256x128.Idx → Elt F .i32) : Prop :=
  ∀ (r : Fin 8) x, ((numRow r).view.read (Elt F) (nums i ids) x).toNat < S128x128.size gathers_S128x128_S128x128.axis

/-- The 128 rows that step `r` gathers from a table. -/
abbrev gathered (i : grid1.Coords) (ids : S256x128.Idx → Elt F .i32) (h : InTab i ids) (r : Fin 8) (t : S128x128.Idx → Elt F .f32) :
    S128x128.Idx → Elt F .f32 :=
  SparseCore.gatherPayload gathers_S128x128_S128x128 t (SparseCore.rows ((numRow r).view.read (Elt F) (nums i ids)) rfl (h r))

/-- What a view's write leaves agrees on the view with any contents the view reads as the words written. -/
theorem write_eq_of_read {κ : Kind} {sp : Space} {s : Shape} {e : EltTy} (v : View sig κ sp s e) {f g : v.ty.Contents (Elt F)}
    {w : s.Idx → Elt F e} (h : v.read (Elt F) g = w) : ∀ x ∈ v.set, v.write (Elt F) f w Finset.univ x = g x := by
  intro x hx
  obtain ⟨j, -, rfl⟩ := Finset.mem_map.mp hx
  rw [View.write_emb_of_mem _ _ (Finset.mem_univ j), ← h, View.read_apply, cast_cast, cast_eq]

section Tile

variable [FloatOps F] (d : Dev nD) (i : grid1.Coords)

/-- The task's thread. -/
abbrev thr : Thread nD τ := V d (cV i) (jV i)

/-- The subcore's semaphores, two of them apart. -/
theorem ownSems0_two {s : DmaSem sig} (hs : s ≠ gsem) (hsc : (SemLoc.dma s : SemLoc sig).isScoped .scVector = true) :
    (ownSems0 (thr d i) : sProp 𝕄)
      = iprop(semVal (thr d i, SemLoc.dma gsem) 0 ∗ semVal (thr d i, SemLoc.dma s) 0
          ∗ bigSep (((ownCells (thr d i)).erase (thr d i, SemLoc.dma gsem)).erase (thr d i, SemLoc.dma s)) fun g => semVal g 0) := by
  unfold SparseCore.Cfg.ownSems0
  rw [SparseCore.bigSep_erase' ((mem_ownCells (g := (thr d i, SemLoc.dma gsem))).mpr ⟨rfl, by
      show (SemLoc.dma gsem : SemLoc sig).isScoped .scVector = true; decide⟩),
    SparseCore.bigSep_erase' (Finset.mem_erase.mpr ⟨fun e => hs (by simpa using e),
      (mem_ownCells (g := (thr d i, SemLoc.dma s))).mpr ⟨rfl, hsc⟩⟩)]

variable (O : CellTallies nD τ sig (HIx 1)) (W : Waits sig (HIx 1))

/-- What the task has waited for: what it had before, and waits no handshake is about. -/
abbrev waited : sProp 𝕄 := iprop(∃ W', ⌜∀ p ∈ W', p ∈ W ∨ p.2 = none⌝ ∗ owes (thr d i) O W')

/-- What every step takes and brings back: the right to wait, a share of the table, the fetched row numbers, the row
    scratch, the semaphores at zero, and the waits so far. -/
abbrev held (tab : Memref sig .scVector .hbm S128x128 .f32) (q : PosShare TreeShare) (ft : Buf (Elt F) (tab.view.loc (thr d i)))
    (fo : Buf (Elt F) (numV.view.loc (thr d i))) : sProp 𝕄 :=
  iprop((tab.view.loc (thr d i) ↦{q} ft) ∗ (numV.view.loc (thr d i) ↦{fullShare} fo)
    ∗ (∃ fb, rowV.view.loc (thr d i) ↦{fullShare} fb) ∗ ownSems0 (thr d i) ∗ waited d i O W)

/-- The rows of an output that step `r` writes, at the contents `f`. -/
abbrev rowsAt (out : Memref sig .scVector .hbm S32768x128 .f32) (r : Fin 8) (f : Buf (Elt F) (out.view.loc (thr d i))) : sProp 𝕄 :=
  out.view.loc (thr d i) ↦[(outRows out i r).view.set]{fullShare} f

variable {O W}

/-- A wait added at no index keeps the waits listed so far or at no index. -/
theorem waited_insert {W' : Waits sig (HIx 1)} (hW' : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact hW' p hp

/-- One step: the rows the numbers name are gathered from the table and written to the output's rows. -/
theorem wp_step {tab : Memref sig .scVector .hbm S128x128 .f32} {out : Memref sig .scVector .hbm S32768x128 .f32} {ws : Fin 8 → DmaSem sig}
    (r : Fin 8) (hs : ws r ≠ gsem) (hsc : (SemLoc.dma (ws r) : SemLoc sig).isScoped .scVector = true)
    {q : PosShare TreeShare} {ft : Buf (Elt F) (tab.view.loc (thr d i))} {ids : S256x128.Idx → Elt F .i32} (hin : InTab i ids)
    {fd g : Buf (Elt F) (out.view.loc (thr d i))}
    (hg : (outRows out i r).view.read (Elt F) g = gathered i ids hin r ((tabAll tab).view.read (Elt F) ft))
    {α : Type} (k : PUnit → Prog (TpuEff nD τ sig (Elt F) Λ₀ (.scVector (cV i) (jV i))) α) (Q : α → sProp 𝕄) :
    iprop(Transfers.MayWaits (thr d i) (default : HIx 1) O ∗ (held d i O W tab q ft (nums i ids) ∗ rowsAt d i out r fd)
        ∗ ((held d i O W tab q ft (nums i ids) ∗ rowsAt d i out r g) -∗ wp frame (wpE (defs₀ (F := F)) 𝒱₀ (thr d i) none) Set.univ (k ⟨⟩) Q))
      ⊢ wp frame (wpE (defs₀ (F := F)) 𝒱₀ (thr d i) none) Set.univ (stepP i tab out ws r >>= k) Q := by
  have hN : ∑ j, (rowV.slice (S128x128.rowRect gathers_S128x128_S128x128.axis' j) (S128x128.stride_rowRect gathers_S128x128_S128x128.axis' j)).view.dmaCredit
      = rowV.view.dmaCredit := by decide
  unfold stepP
  simp only [bind_assoc]
  unfold held
  rw [ownSems0_two d i hs hsc]
  iintro ⟨#Hmw, ⟨⟨Ht, Hn, ⟨%fb, Hb⟩, ⟨Hg, Hw, Hrest⟩, %W', %hW', HO⟩, Hout⟩, Hk⟩
  iapply (SparseCore.wp_gatherFromWhole countersEmb 𝒱₀ (thr d i) none (src := tabAll tab) (dst := rowV) (offs := numRow r) (hg := gathers_S128x128_S128x128)
    (default : HIx 1) rowV.view.dmaCredit hN (by decide) (hin r)) $$ [Ht Hn Hb Hg]
  · isplitl [Ht]; · iexact Ht
    isplitl [Hb]; · iexact Hb
    isplitl [Hn]; · iexact Hn
    iexact Hg
  iintro Hfl
  iapply (Transfers.wp_waitLocalO countersEmb 𝒱₀ (thr d i) none (default : HIx 1) (rfl : rowV.view.dmaCredit = _)) $$ [Hfl HO]
  · isplitl [Hfl]; · iexact Hfl
    isplitl [HO]; · iexact HO
    iapply (Transfers.MayWaits.elim (SemLoc.dma gsem)) $$ Hmw
  iintro ⟨⟨Hb, Ht, Hn⟩, Hg, HO⟩
  iapply (Transfers.wp_dmaFromWhole countersEmb 𝒱₀ (thr d i) none (src := rowV) (dst := outRows out i r) (sm := .dma (ws r)) (default : HIx 1)
    (outRows out i r).view.dmaCredit rfl ((outRows out i r).view.dmaCredit_pos (by decide)) (Finset.Subset.refl _)) $$ [Hb Hout Hw]
  · isplitl [Hb]; · iexact Hb
    isplitl [Hout]; · iexact Hout
    iexact Hw
  iintro Hfl
  iapply (Transfers.wp_waitLocalO countersEmb 𝒱₀ (thr d i) none (default : HIx 1) (rfl : (outRows out i r).view.dmaCredit = _)) $$ [Hfl HO]
  · isplitl [Hfl]; · iexact Hfl
    isplitl [HO]; · iexact HO
    iapply (Transfers.MayWaits.elim (SemLoc.dma (ws r))) $$ Hmw
  iintro ⟨⟨Hout, Hb⟩, Hw, HO⟩
  iapply Hk
  isplitl [Ht Hn Hb Hg Hw Hrest HO]
  · isplitl [Ht]; · iexact Ht
    isplitl [Hn]; · iexact Hn
    isplitl [Hb]; · iexists _; iexact Hb
    isplitl [Hg Hw Hrest]
    · isplitl [Hg]; · iexact Hg
      isplitl [Hw]; · iexact Hw
      iexact Hrest
    iexists _; isplitr
    swap; · iexact HO
    ipureintro; exact waited_insert (waited_insert hW' _) _
  · rw [View.read_write_univ]
    iapply (Entails.of_eq (pointsTo_congr (write_eq_of_read (outRows out i r).view hg))) $$ Hout

/-- The first of a list of resources beside the rest. -/
theorem listed_cons (r : Fin 8) (l : List (Fin 8)) (Φ : Fin 8 → sProp 𝕄) : bigSepL (r :: l) Φ = iprop(Φ r ∗ bigSepL l Φ) := bigSepL_cons r l Φ

/-- A list of steps, one after another. -/
theorem wp_steps {tab : Memref sig .scVector .hbm S128x128 .f32} {out : Memref sig .scVector .hbm S32768x128 .f32} {ws : Fin 8 → DmaSem sig}
    (hs : ∀ r, ws r ≠ gsem) (hsc : ∀ r, (SemLoc.dma (ws r) : SemLoc sig).isScoped .scVector = true)
    {q : PosShare TreeShare} {ft : Buf (Elt F) (tab.view.loc (thr d i))} {ids : S256x128.Idx → Elt F .i32} (hin : InTab i ids)
    {fd g : Buf (Elt F) (out.view.loc (thr d i))}
    (hg : ∀ r, (outRows out i r).view.read (Elt F) g = gathered i ids hin r ((tabAll tab).view.read (Elt F) ft))
    {α : Type} (k : PUnit → Prog (TpuEff nD τ sig (Elt F) Λ₀ (.scVector (cV i) (jV i))) α) (Q : α → sProp 𝕄) :
    ∀ l : List (Fin 8), iprop(Transfers.MayWaits (thr d i) (default : HIx 1) O
        ∗ (held d i O W tab q ft (nums i ids) ∗ bigSepL l fun r => rowsAt d i out r fd)
        ∗ ((held d i O W tab q ft (nums i ids) ∗ bigSepL l fun r => rowsAt d i out r g)
            -∗ wp frame (wpE (defs₀ (F := F)) 𝒱₀ (thr d i) none) Set.univ (k ⟨⟩) Q))
      ⊢ wp frame (wpE (defs₀ (F := F)) 𝒱₀ (thr d i) none) Set.univ (stepsP i tab out ws l >>= k) Q
  | [] => by
    rw [stepsP, pure_bind]
    iintro ⟨-, H, Hk⟩
    iapply Hk; iexact H
  | r :: l => by
    rw [stepsP, bind_assoc, listed_cons, listed_cons]
    iintro ⟨#Hmw, ⟨H, Hr, Hl⟩, Hk⟩
    iapply (wp_step d i r (hs r) (hsc r) hin (hg r))
    isplitr; · iexact Hmw
    isplitl [H Hr]
    · isplitl [H]; · iexact H
      iexact Hr
    iintro ⟨H, Hr⟩
    iapply (wp_steps hs hsc hin hg k Q l)
    isplitr; · iexact Hmw
    isplitl [H Hl]
    · isplitl [H]; · iexact H
      iexact Hl
    iintro ⟨H, Hl⟩
    iapply Hk
    isplitl [H]; · iexact H
    isplitl [Hr]; · iexact Hr
    iexact Hl

end Tile

/-! ## What the steps leave in the outputs -/

section Values

open ValueIdx

/-- The row number at place `n` of the list of 32768. -/
abbrev numAt (ids : S256x128.Idx → Elt F .i32) (n : Fin 32768) : BitVec 32 :=
  ids (ix2 ⟨n.val / 128, by omega⟩ ⟨n.val % 128, by omega⟩)

/-- The rows of a table looked up by the row numbers: row `n` is the table's row of number `n`. -/
def looked (t : S128x128.Idx → Elt F .f32) (ids : S256x128.Idx → Elt F .i32) : S32768x128.Idx → Elt F .f32 :=
  fun x => t (ix2 ⟨(numAt ids (x 0)).toNat % 128, Nat.mod_lt _ (by decide)⟩ (x 1))

/-- The place in the row numbers of word `x` of the scratch's row `r`. -/
theorem numRow_read (i : grid1.Coords) (ids : S256x128.Idx → Elt F .i32) (r : Fin 8) (x : S128.Idx) (h0 : 16 * (i 1).val + 8 * (i 0).val + r.val < 256) :
    (numRow r).view.read (Elt F) (nums i ids) x = ids (ix2 ⟨16 * (i 1).val + 8 * (i 0).val + r.val, h0⟩ (x 0)) := by
  have e : (Shape.reshapeEquiv squeezes_S1x128_S128.numel_eq x : S1x128.Idx) = ix2 (n1 := 128) (0 : Fin 1) (x 0) :=
    Shape.reshapeEquiv_eq_of_rowMajor _ ((Shape.rowMajor_val_two (d := ![1, 128]) (ix2 (n1 := 128) (0 : Fin 1) (x 0))).trans
      ((show 0 * 128 + (x 0).val = (x 0).val by omega).trans (Shape.rowMajor_val_one (d := ![128]) x).symm))
  show ids ((Rect.unit (s := S256x128) (k1_off1 i) S8x128.size (k1_off1_inb i)).emb
    ((Rect.unit (s := S8x128) ![r.val, 0] S1x128.size (numRow_inb r)).emb (Shape.reshapeEquiv squeezes_S1x128_S128.numel_eq x))) = _
  rw [e]
  refine congrArg ids (funext fun a => Fin.ext ?_)
  have hk := k1_off1_eq i
  match a with
  | 0 =>
    show k1_off1 i 0 + 1 * (r.val + 1 * 0) = 16 * (i 1).val + 8 * (i 0).val + r.val
    rw [hk]; show 16 * (i 1).val + 8 * (i 0).val + 1 * (r.val + 1 * 0) = _; omega
  | 1 =>
    show k1_off1 i 1 + 1 * (0 + 1 * (x 0).val) = (x 0).val
    rw [hk]; show 0 + 1 * (0 + 1 * (x 0).val) = _; omega

/-- Every tile's rows of row numbers lie in the array of them. -/
theorem place_lt (i : grid1.Coords) (r : Fin 8) : 16 * (i 1).val + 8 * (i 0).val + r.val < 256 := by
  have h0 : (i 0).val < 2 := (i 0).isLt
  have h1 : (i 1).val < 16 := (i 1).isLt
  omega

/-- The row numbers are rows of a table, when every one is. -/
theorem inTab_of_lt (i : grid1.Coords) {ids : S256x128.Idx → Elt F .i32} (h : ∀ x, (ids x).toNat < 128) : InTab i ids := by
  intro r x
  rw [numRow_read i ids r x (place_lt i r)]
  exact h _

/-- The rows step `r` writes are those the row numbers look up. -/
theorem looked_rows (i : grid1.Coords) {ids : S256x128.Idx → Elt F .i32} (h : InTab i ids) (t : S128x128.Idx → Elt F .f32) (r : Fin 8) (j : S128x128.Idx) :
    looked t ids ((Rect.unit (s := S32768x128) (k1_off2 i (BitVec.ofNat 32 (128 * r.val))) S128x128.size (k1_off2_inb i r)).emb j)
      = gathered i ids h r t j := by
  have hk := k1_off2_eq i r
  have hj0 : (j 0).val < 128 := (j 0).isLt
  have e0 : ((Rect.unit (s := S32768x128) (k1_off2 i (BitVec.ofNat 32 (128 * r.val))) S128x128.size (k1_off2_inb i r)).emb j 0).val
      = 2048 * (i 1).val + 1024 * (i 0).val + 128 * r.val + (j 0).val := by
    show k1_off2 i (BitVec.ofNat 32 (128 * r.val)) 0 + 1 * (j 0).val = _
    rw [hk]; show 2048 * (i 1).val + 1024 * (i 0).val + 128 * r.val + 1 * (j 0).val = _; omega
  have e1 : ((Rect.unit (s := S32768x128) (k1_off2 i (BitVec.ofNat 32 (128 * r.val))) S128x128.size (k1_off2_inb i r)).emb j 1).val = (j 1).val := by
    show k1_off2 i (BitVec.ofNat 32 (128 * r.val)) 1 + 1 * (j 1).val = _
    rw [hk]; show 0 + 1 * (j 1).val = _; omega
  have hx : (S128.rowMajor.symm ((j 0).cast rfl : Fin S128.numel)) 0 = j 0 := by
    apply Fin.ext
    rw [← Shape.rowMajor_val_one]
    show ((S128.rowMajor (S128.rowMajor.symm _)).val) = _
    rw [Equiv.apply_symm_apply]; rfl
  have hn : numAt ids ((Rect.unit (s := S32768x128) (k1_off2 i (BitVec.ofNat 32 (128 * r.val))) S128x128.size (k1_off2_inb i r)).emb j 0)
      = (numRow r).view.read (Elt F) (nums i ids) (S128.rowMajor.symm ((j 0).cast rfl : Fin S128.numel)) := by
    rw [numRow_read i ids r _ (place_lt i r), hx]
    refine congrArg ids (funext fun a => Fin.ext ?_)
    match a with
    | 0 => show _ / 128 = _; rw [e0]; show _ = 16 * (i 1).val + 8 * (i 0).val + r.val; omega
    | 1 => show _ % 128 = (j 0).val; rw [e0]; omega
  have hlt := h r (S128.rowMajor.symm ((j 0).cast rfl : Fin S128.numel))
  refine congrArg t (funext fun a => Fin.ext ?_)
  match a with
  | 0 =>
    show (numAt ids _).toNat % 128 = ((numRow r).view.read (Elt F) (nums i ids) (S128.rowMajor.symm ((j 0).cast rfl : Fin S128.numel))).toNat
    rw [hn]; exact Nat.mod_eq_of_lt hlt
  | 1 => exact e1

/-- All of a table, read. -/
theorem emb_all (x : S128x128.Idx) : (Rect.unit (s := S128x128) ![0, 0] S128x128.size inb_S128x128_S128x128_0_0).emb x = x := by
  funext a; apply Fin.ext
  match a with
  | 0 => show 0 + 1 * (x 0).val = _; omega
  | 1 => show 0 + 1 * (x 1).val = _; omega

end Values

end Cert.Proof.RunI

end
-- ==== Proof.TaskI.lean ====
/-
  The whole task of a vector subcore, and what the call's handshakes carry to it and back: shares of the row numbers and
  of the tables, and the task's own rows of the outputs, which come back holding the rows looked up.
-/
module

public import proofs.«01_k».proof.Proof.TileI

@[expose] public section

noncomputable section

namespace Cert.Proof.RunI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What a device's call works on: the row numbers, the three tables, and what the outputs hold before it. -/
structure Ins (F : FTy → Type) where
  ids : S256x128.Idx → Elt F .i32
  t0 : S128x128.Idx → Elt F .f32
  t1 : S128x128.Idx → Elt F .f32
  t2 : S128x128.Idx → Elt F .f32
  o0 : S32768x128.Idx → Elt F .f32
  o1 : S32768x128.Idx → Elt F .f32
  o2 : S32768x128.Idx → Elt F .f32

abbrev idsLoc (d : Dev nD) : Loc nD τ sig := (SparseCore.T d).loc main_v8
abbrev tLoc0 (d : Dev nD) : Loc nD τ sig := (SparseCore.T d).loc main_v2
abbrev tLoc1 (d : Dev nD) : Loc nD τ sig := (SparseCore.T d).loc main_v7_0
abbrev tLoc2 (d : Dev nD) : Loc nD τ sig := (SparseCore.T d).loc main_v7_1
abbrev oLoc0 (d : Dev nD) : Loc nD τ sig := (SparseCore.T d).loc main_v9_0
abbrev oLoc1 (d : Dev nD) : Loc nD τ sig := (SparseCore.T d).loc main_v9_1
abbrev oLoc2 (d : Dev nD) : Loc nD τ sig := (SparseCore.T d).loc main_v9_2

/-- The elements of an output that step `r` of a task writes. -/
abbrev rowSet (i : grid1.Coords) (r : Fin 8) : Finset S32768x128.Idx := (Rect.unit (s := S32768x128) (k1_off2 i (BitVec.ofNat 32 (128 * r.val))) S128x128.size (k1_off2_inb i r)).set

/-- The task's share of what all tasks read: one of thirty-two. -/
def share (i : grid1.Coords) : PosShare TreeShare :=
  Idealize.ShloMosaic.pieceOf fullShare (2 * 16) (by decide) (finProdFinEquiv ((i 0, i 1) : Fin 2 × Fin 16))

/-- A task's rows of the three outputs, at given contents. -/
def outsAt (d : Dev nD) (i : grid1.Coords) (f0 f1 f2 : S32768x128.Idx → Elt F .f32) : sProp 𝕄 :=
  iprop((bigSep Finset.univ fun r : Fin 8 => oLoc0 d ↦[rowSet i r]{fullShare} f0)
    ∗ (bigSep Finset.univ fun r : Fin 8 => oLoc1 d ↦[rowSet i r]{fullShare} f1)
    ∗ (bigSep Finset.univ fun r : Fin 8 => oLoc2 d ↦[rowSet i r]{fullShare} f2))

/-- A task's shares of the row numbers and of the three tables. -/
def insAt (A : Ins F) (d : Dev nD) (i : grid1.Coords) : sProp 𝕄 :=
  iprop((idsLoc d ↦{share i} A.ids) ∗ (tLoc0 d ↦{share i} A.t0) ∗ (tLoc1 d ↦{share i} A.t1) ∗ (tLoc2 d ↦{share i} A.t2))

/-- What a task is handed, and what it brings back. -/
abbrev goRes (A : Ins F) (d : Dev nD) (i : grid1.Coords) : sProp 𝕄 := iprop(insAt A d i ∗ outsAt d i A.o0 A.o1 A.o2)
abbrev tdRes (A : Ins F) (d : Dev nD) (i : grid1.Coords) : sProp 𝕄 :=
  iprop(insAt A d i ∗ outsAt d i (looked A.t0 A.ids) (looked A.t1 A.ids) (looked A.t2 A.ids))

section Tile

variable (d : Dev nD) (i : grid1.Coords)

omit d i in
/-- Resources for each of eight steps, in their order. -/
theorem listed_eight {Φ Ψ : Fin 8 → sProp 𝕄} (h : ∀ r, Φ r = Ψ r) : bigSep Finset.univ Φ = bigSepL eight Ψ := by
  rw [bigSep_univ_eq_bigSepL eight (by decide) (by decide)]
  exact congrArg (bigSepL eight) (funext h)

/-- The eight row sets of an output, listed, as the steps address them. -/
theorem rows_listed0 (f : S32768x128.Idx → Elt F .f32) :
    (bigSep Finset.univ fun r : Fin 8 => (oLoc0 d ↦[rowSet i r]{fullShare} f : sProp 𝕄)) = bigSepL eight fun r => rowsAt d i out0 r f := by
  refine listed_eight fun r => ?_
  rw [rowsAt, show (outRows out0 i r).view.set = rowSet i r from View.set_slice_whole _ _]
/-- The same for the second result. -/
theorem rows_listed1 (f : S32768x128.Idx → Elt F .f32) :
    (bigSep Finset.univ fun r : Fin 8 => (oLoc1 d ↦[rowSet i r]{fullShare} f : sProp 𝕄)) = bigSepL eight fun r => rowsAt d i out1 r f := by
  refine listed_eight fun r => ?_
  rw [rowsAt, show (outRows out1 i r).view.set = rowSet i r from View.set_slice_whole _ _]
/-- The same for the third result. -/
theorem rows_listed2 (f : S32768x128.Idx → Elt F .f32) :
    (bigSep Finset.univ fun r : Fin 8 => (oLoc2 d ↦[rowSet i r]{fullShare} f : sProp 𝕄)) = bigSepL eight fun r => rowsAt d i out2 r f := by
  refine listed_eight fun r => ?_
  rw [rowsAt, show (outRows out2 i r).view.set = rowSet i r from View.set_slice_whole _ _]

/-- The two scratch buffers are among the subcore's own. -/
theorem ownBufs_two :
    (ownBufs (thr d i) : sProp 𝕄)
      = iprop((∃ f, numV.view.loc (thr d i) ↦{fullShare} f) ∗ (∃ f, rowV.view.loc (thr d i) ↦{fullShare} f)
          ∗ bigSep (((ownRefs (τ := τ) (.scVector (cV i) (jV i))).erase ((Proc.scVector (cV i) (jV i)).devRef cc1_scratch0)).erase
              ((Proc.scVector (cV i) (jV i)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV i) (jV i)) (b := (Proc.scVector (cV i) (jV i)).devRef cc1_scratch1) rfl⟩)]

variable [FloatOps F]

/-- The semaphores of the copies out are not the gathers'. -/
theorem wsem0_ne : ∀ r, wsem0 r ≠ gsem := by decide
/-- The same for the second result's. -/
theorem wsem1_ne : ∀ r, wsem1 r ≠ gsem := by decide
/-- The same for the third result's. -/
theorem wsem2_ne : ∀ r, wsem2 r ≠ gsem := by decide
/-- The semaphores of the copies out belong to their scopes. -/
theorem wsem0_scoped : ∀ r, (SemLoc.dma (wsem0 r) : SemLoc sig).isScoped .scVector = true := by decide
/-- The same for the second result's. -/
theorem wsem1_scoped : ∀ r, (SemLoc.dma (wsem1 r) : SemLoc sig).isScoped .scVector = true := by decide
/-- The same for the third result's. -/
theorem wsem2_scoped : ∀ r, (SemLoc.dma (wsem2 r) : SemLoc sig).isScoped .scVector = true := by decide

/-- The fetch of the row numbers. -/
theorem wp_fetch {O : CellTallies nD τ sig (HIx 1)} {W : Waits sig (HIx 1)} {q : PosShare TreeShare} (ids : S256x128.Idx → Elt F .i32)
    {f : Buf (Elt F) (numV.view.loc (thr d i))}
    {α : Type} (k : PUnit → Prog (TpuEff nD τ sig (Elt F) Λ₀ (.scVector (cV i) (jV i))) α) (Q : α → sProp 𝕄) :
    iprop(Transfers.MayWaits (thr d i) (default : HIx 1) O
        ∗ ((idsV.view.loc (thr d i) ↦{q} ids) ∗ (numV.view.loc (thr d i) ↦{fullShare} f) ∗ ownSems0 (thr d i) ∗ owes (thr d i) O W)
        ∗ (((idsV.view.loc (thr d i) ↦{q} ids) ∗ (numV.view.loc (thr d i) ↦{fullShare} nums i ids) ∗ ownSems0 (thr d i) ∗ waited d i O W)
            -∗ wp frame (wpE (defs₀ (F := F)) 𝒱₀ (thr d i) none) Set.univ (k ⟨⟩) Q))
      ⊢ wp frame (wpE (defs₀ (F := F)) 𝒱₀ (thr d i) none) Set.univ (fetchP i >>= k) Q := by
  unfold fetchP
  simp only [bind_assoc]
  rw [ownSems0_two d i (s := fsem) (by decide) (by decide)]
  iintro ⟨#Hmw, ⟨Hi, Hn, ⟨Hg, Hf, Hrest⟩, HO⟩, Hk⟩
  iapply (Transfers.wp_dmaFromWhole countersEmb 𝒱₀ (thr d i) none (src := idsRows i) (dst := numV) (sm := .dma fsem) (default : HIx 1)
    numV.view.dmaCredit rfl (by decide) (Finset.subset_univ _)) $$ [Hi Hn Hf]
  · isplitl [Hi]; · iexact Hi
    isplitl [Hn]; · iexact Hn
    iexact Hf
  iintro Hfl
  iapply (Transfers.wp_waitLocalO countersEmb 𝒱₀ (thr d i) none (default : HIx 1) (rfl : numV.view.dmaCredit = _)) $$ [Hfl HO]
  · isplitl [Hfl]; · iexact Hfl
    isplitl [HO]; · iexact HO
    iapply (Transfers.MayWaits.elim (SemLoc.dma fsem)) $$ Hmw
  iintro ⟨⟨Hn, Hi⟩, Hf, HO⟩
  iapply Hk
  isplitl [Hi]; · iexact Hi
  isplitl [Hn]
  · iapply (Entails.of_eq (pointsTo_congr fun x _ => congrFun (View.write_whole_univ cc1_scratch0 _ _) x)) $$ Hn
  isplitl [Hg Hf Hrest]
  · isplitl [Hg]; · iexact Hg
    isplitl [Hf]; · iexact Hf
    iexact Hrest
  iexists _; isplitr
  swap; · iexact HO
  ipureintro; exact waited_insert (fun p hp => Or.inl hp) _

set_option maxHeartbeats 2000000 in
/-- The task on a vector subcore: it brings back its shares, and its rows of the outputs at the rows looked up. -/
theorem tile_body (A : Ins F) (hF : (K (F := F)).Facts) (hin : InTab i A.ids) (O : CellTallies nD τ sig (HIx 1)) (W : Waits sig (HIx 1)) (hO : ∀ g, O g none = 0) :
    iprop(levAts (K (F := F)).L (K (F := F)).lev ∗ emp ∗ goRes A d i
        ∗ scopedBufs (thr d i) ∗ scopedSems0 (thr d i) ∗ owes (thr d i) O W)
      ⊢ wp frame (wpE (defs₀ (F := F)) 𝒱₀ (thr d i) none) Set.univ (taskP i)
          fun _ => iprop(tdRes A d i ∗ scopedBufs (thr d i) ∗ scopedSems0 (thr d i)
            ∗ ∃ W', ⌜∀ p ∈ W', p ∈ W ∨ p.2 = none⌝ ∗ owes (thr d i) O W') := by
  unfold taskP goRes tdRes insAt outsAt
  rw [(K (F := F)).scopedBufs_V hF d (cV i) (jV i), SparseCore.Cfg.scopedSems0_V (Val := Elt F) d (cV i) (jV i)]
  rw [show (ownBufs (V d (cV i) (jV i)) : sProp 𝕄) = _ from ownBufs_two d i]
  simp only [rows_listed0, rows_listed1, rows_listed2]
  have hg0 : ∀ r, (outRows out0 i r).view.read (Elt F) (looked A.t0 A.ids) = gathered i A.ids hin r ((tabAll tab0).view.read (Elt F) A.t0) := fun r =>
    funext fun j => (looked_rows i hin A.t0 r j).trans (congrArg (fun t => gathered i A.ids hin r t j) (funext fun x => congrArg A.t0 (emb_all x).symm))
  have hg1 : ∀ r, (outRows out1 i r).view.read (Elt F) (looked A.t1 A.ids) = gathered i A.ids hin r ((tabAll tab1).view.read (Elt F) A.t1) := fun r =>
    funext fun j => (looked_rows i hin A.t1 r j).trans (congrArg (fun t => gathered i A.ids hin r t j) (funext fun x => congrArg A.t1 (emb_all x).symm))
  have hg2 : ∀ r, (outRows out2 i r).view.read (Elt F) (looked A.t2 A.ids) = gathered i A.ids hin r ((tabAll tab2).view.read (Elt F) A.t2) := fun r =>
    funext fun j => (looked_rows i hin A.t2 r j).trans (congrArg (fun t => gathered i A.ids hin r t j) (funext fun x => congrArg A.t2 (emb_all x).symm))
  iintro ⟨#Hlv, -, ⟨⟨Hi, Ht0, Ht1, Ht2⟩, Ho0, Ho1, Ho2⟩, ⟨⟨%fn, Hn⟩, Hb, Hbufs⟩, Hsems, HO⟩
  ihave #Hmw := (show levAts (K (F := F)).L (K (F := F)).lev ⊢ Transfers.MayWaits (thr d i) (default : HIx 1) O from
    (K (F := F)).mayWaits_none (thr := thr d i) hO) $$ Hlv
  iapply (wp_fetch d i A.ids (q := share i) (W := W))
  isplitr; · iexact Hmw
  isplitl [Hi Hn Hsems HO]
  · isplitl [Hi]; · iexact Hi
    isplitl [Hn]; · iexact Hn
    isplitl [Hsems]; · iexact Hsems
    iexact HO
  iintro ⟨Hi, Hn, Hsems, HO⟩
  iapply (wp_steps d i (tab := tab0) (out := out0) (q := share i) (ft := A.t0) (fd := A.o0) wsem0_ne wsem0_scoped hin hg0 (O := O) (W := W))
  isplitr; · iexact Hmw
  isplitl [Ht0 Hn Hb Hsems HO Ho0]
  · isplitl [Ht0 Hn Hb Hsems HO]
    · isplitl [Ht0]; · iexact Ht0
      isplitl [Hn]; · iexact Hn
      isplitl [Hb]; · iexact Hb
      isplitl [Hsems]; · iexact Hsems
      iexact HO
    iexact Ho0
  iintro ⟨⟨Ht0, Hn, Hb, Hsems, HO⟩, Ho0⟩
  iapply (wp_steps d i (tab := tab1) (out := out1) (q := share i) (ft := A.t1) (fd := A.o1) wsem1_ne wsem1_scoped hin hg1 (O := O) (W := W))
  isplitr; · iexact Hmw
  isplitl [Ht1 Hn Hb Hsems HO Ho1]
  · isplitl [Ht1 Hn Hb Hsems HO]
    · isplitl [Ht1]; · iexact Ht1
      isplitl [Hn]; · iexact Hn
      isplitl [Hb]; · iexact Hb
      isplitl [Hsems]; · iexact Hsems
      iexact HO
    iexact Ho1
  iintro ⟨⟨Ht1, Hn, Hb, Hsems, HO⟩, Ho1⟩
  rw [← bind_pure (stepsP i tab2 out2 wsem2 eight)]
  iapply (wp_steps d i (tab := tab2) (out := out2) (q := share i) (ft := A.t2) (fd := A.o2) wsem2_ne wsem2_scoped hin hg2 (O := O) (W := W))
  isplitr; · iexact Hmw
  isplitl [Ht2 Hn Hb Hsems HO Ho2]
  · isplitl [Ht2 Hn Hb Hsems HO]
    · isplitl [Ht2]; · iexact Ht2
      isplitl [Hn]; · iexact Hn
      isplitl [Hb]; · iexact Hb
      isplitl [Hsems]; · iexact Hsems
      iexact HO
    iexact Ho2
  iintro ⟨⟨Ht2, Hn, Hb, Hsems, HO⟩, Ho2⟩
  sl_step
  isplitl [Hi Ht0 Ht1 Ht2 Ho0 Ho1 Ho2]
  · isplitl [Hi Ht0 Ht1 Ht2]
    · isplitl [Hi]; · iexact Hi
      isplitl [Ht0]; · iexact Ht0
      isplitl [Ht1]; · iexact Ht1
      iexact Ht2
    isplitl [Ho0]; · iexact Ho0
    isplitl [Ho1]; · iexact Ho1
    iexact Ho2
  isplitl [Hn Hb Hbufs]
  · isplitl [Hn]; · iexists _; iexact Hn
    isplitl [Hb]; · iexact Hb
    iexact Hbufs
  isplitl [Hsems]; · iexact Hsems
  iexact HO

end Tile

end Cert.Proof.RunI

end
-- ==== Proof.LaunchI.lean ====
/-
  The call on the SparseCores: what its handshakes carry, the tasks' obligation from the task proved, and the operands
  cut into the tasks' parts and the results put together from them.
-/
module

public import proofs.«01_k».proof.Proof.TaskI

@[expose] public section

noncomputable section

namespace Cert.Proof.RunI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A task's coordinates -/

/-- The coordinates of a task, from its SparseCore and its tile. -/
def coordsV (c : Fin (grid1.bound 0)) (s : Fin (grid1.bound 1)) : grid1.Coords :=
  fun | 0 => c | 1 => s | ⟨_ + 2, h⟩ => absurd h (Nat.not_lt.2 (Nat.le_add_left _ _))

/-- The same, from the call's own counts. -/
abbrev at_ (c : Fin ((K (F := F)).nCore 0)) (s : Fin ((K (F := F)).nSub 0)) : grid1.Coords := coordsV ⟨c.val, c.isLt⟩ ⟨s.val, s.isLt⟩

/-- Resources for each of two cores, written out. -/
theorem bigSep_cores (Φ : Fin 2 → sProp 𝕄) :
    (bigSep Finset.univ fun c : Fin ((K (F := F)).nCore 0) => Φ ⟨c.val, c.isLt⟩) = bigSep Finset.univ Φ := rfl
/-- Resources for each of sixteen tiles, written out. -/
theorem bigSep_tiles (Φ : Fin 16 → sProp 𝕄) :
    (bigSep Finset.univ fun c : Fin ((K (F := F)).nSub 0) => Φ ⟨c.val, c.isLt⟩) = bigSep Finset.univ Φ := rfl

/-! ## What the handshakes carry -/

section Pay

variable (A : Dev nD → Ins F)

/-- Each task is handed its parts and brings them back; each SparseCore its tasks' together. -/
def P : (K (F := F)).Pay (nD := nD) (Val := Elt F) (Name := ℕ) (U := UU) where
  st := fun q d c => match q with | 0 => bigSep Finset.univ fun s => goRes (A d) d (at_ (F := F) c s)
  dn := fun q d c => match q with | 0 => bigSep Finset.univ fun s => tdRes (A d) d (at_ (F := F) c s)
  go := fun q d c s => match q with | 0 => goRes (A d) d (at_ (F := F) c s)
  td := fun q d c s => match q with | 0 => tdRes (A d) d (at_ (F := F) c s)
  x := fun _ _ => iprop(emp)

/-- What a tile is given can be stored. -/
instance goRes_storable (B : Ins F) (d : Dev nD) (i : grid1.Coords) : BI.Storable (upEmb : UEmb _ 𝕄) (goRes B d i) := by
  unfold goRes insAt outsAt; infer_instance
/-- What a tile gives back can be stored. -/
instance tdRes_storable (B : Ins F) (d : Dev nD) (i : grid1.Coords) : BI.Storable (upEmb : UEmb _ 𝕄) (tdRes B d i) := by
  unfold tdRes insAt outsAt; infer_instance

/-- All that the call passes can be stored. -/
instance P_storable : (P A).IsStorable where
  st q d c := match q with
    | 0 => (inferInstance : BI.Storable (upEmb : UEmb _ 𝕄) (bigSep Finset.univ fun s => goRes (A d) d (at_ (F := F) c s)))
  dn q d c := match q with
    | 0 => (inferInstance : BI.Storable (upEmb : UEmb _ 𝕄) (bigSep Finset.univ fun s => tdRes (A d) d (at_ (F := F) c s)))
  go q d c s := match q with
    | 0 => (inferInstance : BI.Storable (upEmb : UEmb _ 𝕄) (goRes (A d) d (at_ (F := F) c s)))
  td q d c s := match q with
    | 0 => (inferInstance : BI.Storable (upEmb : UEmb _ 𝕄) (tdRes (A d) d (at_ (F := F) c s)))

/-- A SparseCore's operands are its tasks', and so its results. -/
theorem vecSplit : (K (F := F)).VecSplit' (P A) 0 := by
  intro d c
  show (bigSep Finset.univ fun s => goRes (A d) d (at_ (F := F) c s)) ⊢ |={Set.univ}=> iprop(
      (bigSep Finset.univ fun s => goRes (A d) d (at_ (F := F) c s))
      ∗ ((bigSep Finset.univ fun s => tdRes (A d) d (at_ (F := F) c s)) -∗ bigSep Finset.univ fun s => tdRes (A d) d (at_ (F := F) c s)))
  iintro H; imodintro
  isplitl [H]; · iexact H
  iintro H; iexact H

/-! ## The tasks' obligation -/

variable [FloatOps F]

/-- What a tile runs is the kernel's body at its core and its number. -/
theorem defs₀_vector (c : Fin τ.nSC) (s : Fin τ.nSub) :
    defs₀ (F := F) (.scVector c s) 1 () = SparseCore.onTile hcore1 hsub1 (fun c s => taskP (coordsV c s)) ⟨⟩ c s := by
  simp only [← sc_gather_eq]
  rfl

omit [FloatOps F] in
/-- Waits that name no call are within what a task may leave. -/
theorem waits_weaken {t : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes t O W')
      ⊢ iprop(X ∗ Y ∗ Z ∗ ∃ W', ⌜∀ p ∈ W', p ∈ W ∨ p.2 = none ∨ p.2 = some q⌝ ∗ owes t O W') := by
  refine sep_mono_right (sep_mono_right (sep_mono_right ?_))
  iintro ⟨%W', %hW, HO⟩
  iexists W'
  isplitr; · ipureintro; exact fun p hp => (hW p hp).imp_right .inl
  iexact HO

/-- What the tasks ask: every row number they look up is a row of the tables. -/
abbrev RowsOK : Prop := ∀ (d : Dev nD) x, ((A d).ids x).toNat < 128

set_option maxRecDepth 16384 in
/-- Every tile does its task. -/
theorem tileObl (hA : RowsOK A) : (K (F := F)).TileObl (D (F := F)) 𝒱 (P A) v₀ 0 := by
  intro d c s O W hO _ _
  simp only [show (P A).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]
  simp only [SparseCore.onTile, hcs, and_self, ↓reduceDIte]
  exact (tile_body d (coordsV ⟨_, hcs.1⟩ ⟨_, hcs.2⟩) (A d) launchFacts (inTab_of_lt _ (hA d)) O W hO).trans (wp_mono frame _ _ fun _ => waits_weaken)

end Pay

/-! ## The operands cut, the results put together -/

/-- A block of an output by SparseCore, tile and step. -/
abbrev blockOf (k : Fin 2 × Fin 16 × Fin 8) : Finset S32768x128.Idx := rowSet (coordsV k.1 k.2.1) k.2.2

/-- A row lies in a block exactly when its number does. -/
theorem mem_blockOf (k : Fin 2 × Fin 16 × Fin 8) (x : S32768x128.Idx) :
    x ∈ blockOf k ↔ 2048 * k.2.1.val + 1024 * k.1.val + 128 * k.2.2.val ≤ (x 0).val
      ∧ (x 0).val < 2048 * k.2.1.val + 1024 * k.1.val + 128 * k.2.2.val + 128 := by
  have hoff := k1_off2_eq (coordsV k.1 k.2.1) k.2.2
  rw [Rect.mem_set_unit, hoff]
  have h1 := (x 1).isLt
  constructor
  · intro h; exact h 0
  · intro h a
    match a with
    | 0 => exact h
    | 1 => exact ⟨Nat.zero_le _, by simpa using h1⟩

/-- Two different blocks share no row. -/
theorem blocks_disjoint : ∀ k ∈ (Finset.univ : Finset (Fin 2 × Fin 16 × Fin 8)), ∀ k' ∈ (Finset.univ : Finset (Fin 2 × Fin 16 × Fin 8)),
    k ≠ k' → Disjoint (blockOf k) (blockOf k') := by
  rintro ⟨c, s, r⟩ - ⟨c', s', r'⟩ - hne
  refine Finset.disjoint_left.mpr fun x hx hx' => hne ?_
  have h := (mem_blockOf _ _).mp hx
  have h' := (mem_blockOf _ _).mp hx'
  simp only at h h'
  have := c.isLt; have := c'.isLt; have := s.isLt; have := s'.isLt; have := r.isLt; have := r'.isLt
  refine Prod.ext (Fin.ext ?_) (Prod.ext (Fin.ext ?_) (Fin.ext ?_)) <;> simp only <;> omega

/-- The blocks make up the whole array. -/
theorem blocks_cover : (Finset.univ : Finset (Fin 2 × Fin 16 × Fin 8)).biUnion blockOf = Finset.univ := by
  refine Finset.eq_univ_iff_forall.mpr fun x => Finset.mem_biUnion.mpr ?_
  have hx : (x 0).val < 32768 := (x 0).isLt
  refine ⟨(⟨(x 0).val / 1024 % 2, by omega⟩, ⟨(x 0).val / 2048, by omega⟩, ⟨(x 0).val / 128 % 8, by omega⟩), Finset.mem_univ _, ?_⟩
  rw [mem_blockOf]
  simp only
  omega

section Cut

variable (d : Dev nD)

omit d in
/-- All of a buffer is its blocks, by SparseCore, tile and step. -/
theorem cut_blocks (ℓ : Loc nD τ sig) (B : Fin 2 × Fin 16 × Fin 8 → Finset (Idx ℓ))
    (hd : ∀ k ∈ (Finset.univ : Finset (Fin 2 × Fin 16 × Fin 8)), ∀ k' ∈ (Finset.univ : Finset (Fin 2 × Fin 16 × Fin 8)), k ≠ k' → Disjoint (B k) (B k'))
    (hc : (Finset.univ : Finset (Fin 2 × Fin 16 × Fin 8)).biUnion B = Finset.univ) (f : Buf (Elt F) ℓ) :
    (ℓ ↦{fullShare} f : sProp 𝕄)
      = bigSep Finset.univ fun c : Fin 2 => bigSep Finset.univ fun s : Fin 16 => bigSep Finset.univ fun r : Fin 8 => ℓ ↦[B (c, s, r)]{fullShare} f := by
  have h := pointsTo_biUnion (nD := nD) (sig := sig) (Ix := HIx 1) (Name := ℕ) (U := UU) (Lvl := ℕ) (ℓ := ℓ) (f := f) (q := fullShare) Finset.univ B hd
  rw [hc, bigSep_univ_prod] at h
  exact h.trans (bigSep_congr fun c _ => bigSep_univ_prod _)

/-- All of an output is its blocks. -/
theorem out0_blocks (f : S32768x128.Idx → Elt F .f32) :
    (oLoc0 d ↦{fullShare} f : sProp 𝕄)
      = bigSep Finset.univ fun c : Fin 2 => bigSep Finset.univ fun s : Fin 16 => bigSep Finset.univ fun r => oLoc0 d ↦[rowSet (coordsV c s) r]{fullShare} f :=
  cut_blocks (oLoc0 d) blockOf blocks_disjoint blocks_cover f
/-- The same for the second result. -/
theorem out1_blocks (f : S32768x128.Idx → Elt F .f32) :
    (oLoc1 d ↦{fullShare} f : sProp 𝕄)
      = bigSep Finset.univ fun c : Fin 2 => bigSep Finset.univ fun s : Fin 16 => bigSep Finset.univ fun r => oLoc1 d ↦[rowSet (coordsV c s) r]{fullShare} f :=
  cut_blocks (oLoc1 d) blockOf blocks_disjoint blocks_cover f
/-- The same for the third result. -/
theorem out2_blocks (f : S32768x128.Idx → Elt F .f32) :
    (oLoc2 d ↦{fullShare} f : sProp 𝕄)
      = bigSep Finset.univ fun c : Fin 2 => bigSep Finset.univ fun s : Fin 16 => bigSep Finset.univ fun r => oLoc2 d ↦[rowSet (coordsV c s) r]{fullShare} f :=
  cut_blocks (oLoc2 d) blockOf blocks_disjoint blocks_cover f

/-- All of a buffer is the tasks' shares of it. -/
theorem shares (ℓ : Loc nD τ sig) (f : Buf (Elt F) ℓ) :
    (ℓ ↦{fullShare} f : sProp 𝕄) = bigSep Finset.univ fun c : Fin 2 => bigSep Finset.univ fun s : Fin 16 => ℓ ↦{share (coordsV c s)} f := by
  rw [Idealize.ShloMosaic.pointsTo_piecesOf Finset.univ f (show 0 < 2 * 16 by decide) fullShare,
    bigSep_univ_equiv (finProdFinEquiv (m := 2) (n := 16)) _, bigSep_univ_prod]
  rfl

/-- What the call works on, whole: the row numbers, the tables and the three outputs at given contents. -/
def callRes (A : Ins F) (f0 f1 f2 : S32768x128.Idx → Elt F .f32) : sProp 𝕄 :=
  iprop(((idsLoc d ↦{fullShare} A.ids) ∗ (tLoc0 d ↦{fullShare} A.t0) ∗ (tLoc1 d ↦{fullShare} A.t1) ∗ (tLoc2 d ↦{fullShare} A.t2))
    ∗ (oLoc0 d ↦{fullShare} f0) ∗ (oLoc1 d ↦{fullShare} f1) ∗ (oLoc2 d ↦{fullShare} f2))

/-- It is the tasks' parts of it. -/
theorem callRes_parts (A : Ins F) (f0 f1 f2 : S32768x128.Idx → Elt F .f32) :
    (callRes d A f0 f1 f2 : sProp 𝕄)
      = bigSep Finset.univ fun c : Fin 2 => bigSep Finset.univ fun s : Fin 16 => iprop(insAt A d (coordsV c s) ∗ outsAt d (coordsV c s) f0 f1 f2) := by
  unfold callRes insAt outsAt
  rw [shares (idsLoc d), shares (tLoc0 d), shares (tLoc1 d), shares (tLoc2 d), out0_blocks, out1_blocks, out2_blocks]
  simp only [bigSep_sep']

variable (A : Dev nD → Ins F)

/-- The call's operands, as it takes them. -/
theorem st_eq : (bigSep Finset.univ fun c : Fin ((K (F := F)).nCore 0) => (P A).st 0 d c) = (callRes d (A d) (A d).o0 (A d).o1 (A d).o2 : sProp 𝕄) :=
  (callRes_parts d (A d) (A d).o0 (A d).o1 (A d).o2).symm

/-- The call's results: the outputs hold the rows looked up. -/
theorem dn_eq : (bigSep Finset.univ fun c : Fin ((K (F := F)).nCore 0) => (P A).dn 0 d c)
    = (callRes d (A d) (looked (A d).t0 (A d).ids) (looked (A d).t1 (A d).ids) (looked (A d).t2 (A d).ids) : sProp 𝕄) :=
  (callRes_parts d (A d) _ _ _).symm

end Cut

end Cert.Proof.RunI

end
-- ==== Proof.RegionI.lean ====
/-
  The TensorCore's call: it fills the two tables made from the first one.
-/
module

public import proofs.«01_k».proof.Proof.LaunchI
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.Tactic

@[expose] public section

noncomputable section

namespace Cert.Proof.RunI

open Idealize.ShloMosaic.TcCoe
open Idealize.ShloMosaic.Pipeline (Dat Cfg Window BodyObligation cellOf)
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The body -/

/-- A buffer of the TensorCore's, whole, at given contents. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

/-- A row, all of it, is itself. -/
theorem emb_row (x : S1x128.Idx) : (Rect.unit (s := S1x128) ![0, 0] S1x128.size inb_S1x128_S1x128_0_0).emb x = x := by
  funext a; apply Fin.ext
  match a with
  | 0 => show 0 + 1 * (x 0).val = _; omega
  | 1 => show 0 + 1 * (x 1).val = _; omega

/-- The rectangle of all of a table holds every element. -/
theorem mem_all (x : S128x128.Idx) : x ∈ (Rect.unit (s := S128x128) ![0, 0] S128x128.size inb_S128x128_S128x128_0_0).set := by
  rw [Rect.mem_set_unit]
  intro a
  match a with
  | 0 => exact ⟨Nat.zero_le _, by simpa using (x 0).isLt⟩
  | 1 => exact ⟨Nat.zero_le _, by simpa using (x 1).isLt⟩

set_option maxHeartbeats 1000000 in
/-- The body, from its staging buffers: it leaves the inputs as they were and each output at its value of them. -/
theorem wp_tables (c : Dev nD) (x0 x1 x3 : S128x128.Idx → Elt F .f32) (x2 x4 : S1x128.Idx → Elt F .f32) (g5 g6 : S128x128.Idx → Elt F .f32)
    (E : Set ℕ) (Q : PUnit → sProp 𝕄) :
    iprop((pt c (stage0_0 0) x0 ∗ pt c (stage0_1 0) x1 ∗ pt c (stage0_2 0) x2 ∗ pt c (stage0_3 0) x3 ∗ pt c (stage0_4 0) x4 ∗ pt c (stage0_5 0) g5 ∗ pt c (stage0_6 0) g6)
        ∗ (iprop(pt c (stage0_0 0) x0 ∗ pt c (stage0_1 0) x1 ∗ pt c (stage0_2 0) x2 ∗ pt c (stage0_3 0) x3 ∗ pt c (stage0_4 0) x4
            ∗ pt c (stage0_5 0) (k0_pay1 x0 x1 x2) ∗ pt c (stage0_6 0) (k0_pay2 x0 x1 x2 x3 x4)) -∗ Q ⟨⟩))
      ⊢ wp frame (wpE (defs₀ (F := F)) 𝒱₀ (c : Thread nD τ) none) E
        (cc0__tables_body (stage0_0 0) (hstage0_0 0) (stage0_1 0) (hstage0_1 0) (stage0_2 0) (hstage0_2 0) (stage0_3 0) (hstage0_3 0)
          (stage0_4 0) (hstage0_4 0) (stage0_5 0) (hstage0_5 0) (stage0_6 0) (hstage0_6 0)) Q := by
  rw [cc0__tables_body_eq_skeleton]
  unfold cc0__tables_body_skel
  iintro ⟨⟨H0, H1, H2, H3, H4, H5, H6⟩, Hk⟩
  sl_exec!
  sl_step
  have e0 : View.readAt (Elt F) (stage0_0 0).view (Rect.unit (s := S128x128) ![0, 0] S128x128.size inb_S128x128_S128x128_0_0).toLoadRect x0 = x0 :=
    funext fun j => congrArg x0 (emb_all j)
  have e1 : View.readAt (Elt F) (stage0_1 0).view (Rect.unit (s := S128x128) ![0, 0] S128x128.size inb_S128x128_S128x128_0_0).toLoadRect x1 = x1 :=
    funext fun j => congrArg x1 (emb_all j)
  have e2 : View.readAt (Elt F) (stage0_2 0).view (Rect.unit (s := S1x128) ![0, 0] S1x128.size inb_S1x128_S1x128_0_0).toLoadRect x2 = x2 :=
    funext fun j => congrArg x2 (emb_row j)
  have e3 : View.readAt (Elt F) (stage0_3 0).view (Rect.unit (s := S128x128) ![0, 0] S128x128.size inb_S128x128_S128x128_0_0).toLoadRect x3 = x3 :=
    funext fun j => congrArg x3 (emb_all j)
  have e4 : View.readAt (Elt F) (stage0_4 0).view (Rect.unit (s := S1x128) ![0, 0] S1x128.size inb_S1x128_S1x128_0_0).toLoadRect x4 = x4 :=
    funext fun j => congrArg x4 (emb_row j)
  iapply Hk
  isplitl [H0]; · iexact H0
  isplitl [H1]; · iexact H1
  isplitl [H2]; · iexact H2
  isplitl [H3]; · iexact H3
  isplitl [H4]; · iexact H4
  isplitl [H5]
  · iapply (Entails.of_eq (pointsTo_congr fun x _ => ?_)) $$ H5
    unfold wp_tables.sl.H5_1
    rw [e0, e1, e2, View.writes_singleton]
    refine write_eq_of_read ((stage0_5 0).view.slice (Rect.unit (s := S128x128) ![0, 0] S128x128.size inb_S128x128_S128x128_0_0))
      (g := k0_pay1 x0 x1 x2) (funext fun j => congrArg (k0_pay1 x0 x1 x2) (emb_all j)) x ?_
    rw [show ((stage0_5 0).view.slice (Rect.unit (s := S128x128) ![0, 0] S128x128.size inb_S128x128_S128x128_0_0)).set = _ from View.set_slice_whole _ _]
    exact mem_all x
  iapply (Entails.of_eq (pointsTo_congr fun x _ => ?_)) $$ H6
  unfold wp_tables.sl.H6_1
  rw [e0, e1, e2, e3, e4, View.writes_singleton]
  refine write_eq_of_read ((stage0_6 0).view.slice (Rect.unit (s := S128x128) ![0, 0] S128x128.size inb_S128x128_S128x128_0_0))
    (g := k0_pay2 x0 x1 x2 x3 x4) (funext fun j => congrArg (k0_pay2 x0 x1 x2 x3 x4) (emb_all j)) x ?_
  rw [show ((stage0_6 0).view.slice (Rect.unit (s := S128x128) ![0, 0] S128x128.size inb_S128x128_S128x128_0_0)).set = _ from View.set_slice_whole _ _]
  exact mem_all x

/-! ## The call, from the unscoped buffers at given contents -/

/-- The algebra of the call's own rounds within the program's. -/
def EP : Emb UP 𝕄 :=
  ((Emb.inl : Emb UP (UP × Counters)).trans (Emb.inr : Emb (UP × Counters) UU)).trans (uEmb (nD := nD) (sig := sig) (Ix := HIx 1) (Val := Elt F) (Name := ℕ) (U := UU) (Lvl := ℕ)).toEmb
omit [FloatOps F] in
/-- The call's ghost state lies in the launch's. -/
instance EP_landsIn : (EP : Emb UP 𝕄).LandsIn (upEmb : UEmb _ 𝕄) := by unfold EP; infer_instance

/-- The call takes no parameter. -/
abbrev adm : (p : Fin 1) → (pcfgs (F := F) p).Adm := fun p => (cfgs p).toPCfg_adm

section Call

variable (V : (c : Dev nD) → (b : Ref sig .tc) → Buf (Elt F) ((c : Thread nD τ).loc b))

/-- The two tables the call makes. -/
def made1 (c : Dev nD) : S128x128.Idx → Elt F .f32 := k0_pay1 (V c main_v2) (V c main_v3) (V c main_v4)
def made2 (c : Dev nD) : S128x128.Idx → Elt F .f32 := k0_pay2 (V c main_v2) (V c main_v3) (V c main_v4) (V c main_v5) (V c main_v6)

/-- The proof data of the call: the arrays at `V`, the staging buffers after the body, and what the TensorCore owes the
    SparseCores' call throughout. -/
def dat (c : Dev nD) : Dat τ (Elt F) (HIx 1) ℕ UU ℕ cfg0 c where
  A w := V c (Pipeline.arrRef spec0 w)
  after w _ := match w with
    | ⟨0, _⟩ => V c main_v2
    | ⟨1, _⟩ => V c main_v3
    | ⟨2, _⟩ => V c main_v4
    | ⟨3, _⟩ => V c main_v5
    | ⟨4, _⟩ => V c main_v6
    | ⟨5, _⟩ => made1 V c
    | ⟨6, _⟩ => made2 V c
  Φ _ := BI.emp
  q _ := fullShare
  owed _ := (K (F := F)).Otc c 0
  recorded _ := {p | (K (F := F)).lev (SparseCore.T c, p.1) p.2 ≤ 0}

abbrev pdats : (p : Fin 1) → (c : Dev nD) → Dat τ (Elt F) (HIx 1) ℕ UU ℕ (Pipeline.pin (pcfgs (F := F)) adm p) c
  | ⟨0, _⟩ => fun c => dat V c

/-- A window's one block, at its start and of its size, is all of its array. -/
theorem eq_of_start {s : Shape} {e : s.Idx → s.Idx} (h : ∀ x a, (e x a).val = 0 + 1 * (x a).val) (x : s.Idx) : e x = x :=
  funext fun a => Fin.ext ((h x a).trans (by omega))

/-! The body finds each input fetched. -/
theorem before_0 (c : Dev nD) (d) : (dat V c).before 0 t0_0 d = V c main_v2 := by
  unfold Dat.before; rw [if_pos (by decide)]
  exact (show _ = ((cfg0.win 0).blk t0_0).view.read (Elt F) (V c main_v2) from rfl).trans
    (funext fun x => congrArg (V c main_v2) (eq_of_start (e := (win0_0.rect t0_0).emb) (fun x a => match a with | 0 => rfl | 1 => rfl) x))
/-- The same for the first weights. -/
theorem before_1 (c : Dev nD) (d) : (dat V c).before 1 t0_0 d = V c main_v3 := by
  unfold Dat.before; rw [if_pos (by decide)]
  exact (show _ = ((cfg0.win 1).blk t0_0).view.read (Elt F) (V c main_v3) from rfl).trans
    (funext fun x => congrArg (V c main_v3) (eq_of_start (e := (win0_1.rect t0_0).emb) (fun x a => match a with | 0 => rfl | 1 => rfl) x))
/-- The same for the first bias. -/
theorem before_2 (c : Dev nD) (d) : (dat V c).before 2 t0_0 d = V c main_v4 := by
  unfold Dat.before; rw [if_pos (by decide)]
  exact (show _ = ((cfg0.win 2).blk t0_0).view.read (Elt F) (V c main_v4) from rfl).trans
    (funext fun x => congrArg (V c main_v4) (eq_of_start (e := (win0_2.rect t0_0).emb) (fun x a => match a with | 0 => rfl | 1 => rfl) x))
/-- The same for the second weights. -/
theorem before_3 (c : Dev nD) (d) : (dat V c).before 3 t0_0 d = V c main_v5 := by
  unfold Dat.before; rw [if_pos (by decide)]
  exact (show _ = ((cfg0.win 3).blk t0_0).view.read (Elt F) (V c main_v5) from rfl).trans
    (funext fun x => congrArg (V c main_v5) (eq_of_start (e := (win0_3.rect t0_0).emb) (fun x a => match a with | 0 => rfl | 1 => rfl) x))
/-- The same for the second bias. -/
theorem before_4 (c : Dev nD) (d) : (dat V c).before 4 t0_0 d = V c main_v6 := by
  unfold Dat.before; rw [if_pos (by decide)]
  exact (show _ = ((cfg0.win 4).blk t0_0).view.read (Elt F) (V c main_v6) from rfl).trans
    (funext fun x => congrArg (V c main_v6) (eq_of_start (e := (win0_4.rect t0_0).emb) (fun x a => match a with | 0 => rfl | 1 => rfl) x))

set_option maxHeartbeats 1000000 in
/-- The body, run once, leaves the two tables in the staging buffers. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = BI.emp from rfl, show (dat V c).Φ t0_0.succ = BI.emp from rfl,
    show (dat V c).owesAt none t0_0.succ = (dat V c).owesAt none t0_0.castSucc from rfl]
  iintro ⟨-, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩⟩
  rw [before_0] at hf0
  rw [before_1] at hf1
  rw [before_2] at hf2
  rw [before_3] at hf3
  rw [before_4] at hf4
  subst hf0 hf1 hf2 hf3 hf4
  iapply (wp_tables c (V c main_v2) (V c main_v3) (V c main_v5) (V c main_v4) (V c main_v6) f5 f6 Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitr; · iempintro
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro; rfl

/-! The call leaves each output's array at the table made. -/
theorem final_5 (c : Dev nD) : (dat V c).arrAt 5 cfg0.N = made1 V c :=
  (dat V c).arrAt_eq_of_cover 5 (made1 V c)
    (fun t _ => by
      obtain rfl := fin_N0 t
      funext x
      show made1 V c _ = made1 V c ((win0_5.rect t0_0).emb x)
      refine congrArg _ (Eq.trans (funext fun a => Fin.ext ?_) (eq_of_start (e := (win0_5.rect t0_0).emb) (fun x a => match a with | 0 => rfl | 1 => rfl) x).symm)
      match a with
      | 0 => rfl
      | 1 => rfl)
    fun i => ⟨t0_0, flush0_5 _, by
      have h := View.emb_mem_set ((cfg0.win 5).blk t0_0).view i
      rwa [show ((cfg0.win 5).blk t0_0).view.emb i = i from eq_of_start (e := (win0_5.rect t0_0).emb) (fun x a => match a with | 0 => rfl | 1 => rfl) i] at h⟩
/-- The same for the other table. -/
theorem final_6 (c : Dev nD) : (dat V c).arrAt 6 cfg0.N = made2 V c :=
  (dat V c).arrAt_eq_of_cover 6 (made2 V c)
    (fun t _ => by
      obtain rfl := fin_N0 t
      funext x
      show made2 V c _ = made2 V c ((win0_6.rect t0_0).emb x)
      refine congrArg _ (Eq.trans (funext fun a => Fin.ext ?_) (eq_of_start (e := (win0_6.rect t0_0).emb) (fun x a => match a with | 0 => rfl | 1 => rfl) x).symm)
      match a with
      | 0 => rfl
      | 1 => rfl)
    fun i => ⟨t0_0, flush0_6 _, by
      have h := View.emb_mem_set ((cfg0.win 6).blk t0_0).view i
      rwa [show ((cfg0.win 6).blk t0_0).view.emb i = i from eq_of_start (e := (win0_6.rect t0_0).emb) (fun x a => match a with | 0 => rfl | 1 => rfl) i] at h⟩

omit [FloatOps F] in
/-- What the TensorCore owes names the calls only. -/
theorem otc_none (c : Dev nD) (g : GSem nD τ sig) : (K (F := F)).Otc c 0 g none = 0 := by
  simp only [SparseCore.Cfg.Otc, Finset.sum_apply, Fin.sum_univ_one, Fin.val_zero, le_refl, if_true, tallyAt_apply]
  rw [Finsupp.finset_sum_apply]
  exact Finset.sum_eq_zero fun c _ => (tallyAt_apply _ _ _ _ _).trans (if_neg fun h => Option.some_ne_none _ h.2.symm)

variable (Vp : (c : Dev nD) → (b : Ref sig .tc) → Buf (Elt F) ((c : Thread nD τ).loc b))

/-- The TensorCore's debt to the SparseCores' call, nothing waited for beyond it. -/
abbrev debt (c : Dev nD) : sProp 𝕄 := iprop(∃ W, ⌜(K (F := F)).WBelow (SparseCore.T c) W 0⌝ ∗ owes (SparseCore.T c) ((K (F := F)).Otc c 0) W)

set_option maxHeartbeats 1000000 in
set_option backward.isDefEq.respectTransparency.types false in
/-- The call, from every unscoped buffer at `V` to every one at `Vp`, which is `V` but at the two tables. -/
def reg (h1 : ∀ c, Vp c main_v7_0 = made1 V c) (h2 : ∀ c, Vp c main_v7_1 = made2 V c)
    (hne : ∀ c (b : Ref sig .tc), b ≠ main_v7_0 → b ≠ main_v7_1 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin pcfgs adm) (pdats V) none 0 c fun w s _ => (K (F := F)).mayWait_none _ (otc_none c)
  pre c := iprop(unscopedBufs c (V c) ∗ debt c)
  post c := iprop(unscopedBufs c (Vp c) ∗ debt c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show Pipeline.scopedRest (pcfgs (F := F) 0).spec c = (BI.emp : sProp 𝕄) from scopedRest0_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v2 (by decide) (by decide)).symm
        · exact ((pdats V 0 c).arrAt_in 1 rfl _).trans (hne c main_v3 (by decide) (by decide)).symm
        · exact ((pdats V 0 c).arrAt_in 2 rfl _).trans (hne c main_v4 (by decide) (by decide)).symm
        · exact ((pdats V 0 c).arrAt_in 3 rfl _).trans (hne c main_v5 (by decide) (by decide)).symm
        · exact ((pdats V 0 c).arrAt_in 4 rfl _).trans (hne c main_v6 (by decide) (by decide)).symm
        · exact (final_5 V c).trans (h1 c).symm
        · exact (final_6 V c).trans (h2 c).symm)
      (fun b hb => hne c b (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact le_rfl
    iexact HO

end Call

end Cert.Proof.RunI

end
-- ==== Proof.MainI.lean ====
/-
  The whole program on the TensorCore: the host's operations, the TensorCore's call, the SparseCores' call.
-/
module

public import proofs.«01_k».proof.Proof.RegionI
public import Idealize.ShloMosaic.Lib.Pipeline.Frame
public import Idealize.ShloMosaic.Lib.StableHlo.Run

@[expose] public section

noncomputable section

namespace Cert.Proof.RunI

open Idealize.ShloMosaic.TcCoe
open Idealize.ShloMosaic.StableHlo (after seq)
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A host operation of the program. -/
abbrev Op (F : FTy → Type) := HloOp τ sig (Elt F)

/-! ## The host's operations, and what the buffers hold along the program -/

/-- The operations before the TensorCore's call: the first table out of the embedding, the weights transposed, the biases as rows. -/
def ops1 : List (Op F) :=
  [StableHlo.nullary main_cst (constant S_ .f32 0x00000000#32),
   StableHlo.unary main_cst main_v0 (broadcastInDim S128x128 ![] bcast_S_S128x128 : (⟨S_, .f32⟩ : BufTy).Contents (Elt F) → (⟨S128x128, .f32⟩ : BufTy).Contents (Elt F)),
   StableHlo.nullary main_c (constantI S_ 32 0#32),
   StableHlo.unary main_c main_v1 (broadcastInDim S1 ![] bcast_S_S1 : (⟨S_, .i32⟩ : BufTy).Contents (Elt F) → (⟨S1, .i32⟩ : BufTy).Contents (Elt F)),
   StableHlo.ternary main_v0 main_v1 main_arg1 main_v2 ((fun x i u => Host.scatter scatter_S128x128_S1_S100x128_01_n_0_0 (fun _ b => b) x i u) : (⟨S128x128, .f32⟩ : BufTy).Contents (Elt F) → (⟨S1, .i32⟩ : BufTy).Contents (Elt F) → (⟨S100x128, .f32⟩ : BufTy).Contents (Elt F) → (⟨S128x128, .f32⟩ : BufTy).Contents (Elt F)),
   StableHlo.unary main_arg2 main_v3 ((transpose S128x128 [1, 0] · transposes_S128x128_S128x128_1_0) : (⟨S128x128, .f32⟩ : BufTy).Contents (Elt F) → (⟨S128x128, .f32⟩ : BufTy).Contents (Elt F)),
   StableHlo.reshape main_arg3 main_v4 (rfl : (.f32 : EltTy) = .f32) shapeCasts_S128_S1x128,
   StableHlo.unary main_arg4 main_v5 ((transpose S128x128 [1, 0] · transposes_S128x128_S128x128_1_0) : (⟨S128x128, .f32⟩ : BufTy).Contents (Elt F) → (⟨S128x128, .f32⟩ : BufTy).Contents (Elt F)),
   StableHlo.reshape main_arg5 main_v6 (rfl : (.f32 : EltTy) = .f32) shapeCasts_S128_S1x128]

/-- The operation between the calls: the row numbers, a block to a row. -/
def ops2 : List (Op F) := [StableHlo.reshape main_arg0 main_v8 (rfl : (.i32 : EltTy) = .i32) shapeCasts_S4x8192_S256x128]

/-- The operations after them: the results in the shape asked for. -/
def ops3 : List (Op F) :=
  [StableHlo.reshape main_v9_0 main_v10 (rfl : (.f32 : EltTy) = .f32) shapeCasts_S32768x128_S4x8192x128,
   StableHlo.reshape main_v9_1 main_v11 (rfl : (.f32 : EltTy) = .f32) shapeCasts_S32768x128_S4x8192x128,
   StableHlo.reshape main_v9_2 main_v12 (rfl : (.f32 : EltTy) = .f32) shapeCasts_S32768x128_S4x8192x128]

/-- @main is those, with the calls between. -/
theorem main_lines (d : Dev nD) : main (F := F) d
    = (seq ops1 >>= fun _ => Prog.lift (.customCall (SparseCore.inner (Pipeline.entry 0)) ()) >>= fun _ =>
        seq ops2 >>= fun _ => sc.run d 0 >>= fun _ => seq ops3 >>= fun _ => pure ⟨⟩) := rfl

variable (m : (ℓ : Loc nD τ sig) → Buf (Elt F) ℓ) (ρ : Dev nD → PrngReg)

/-- A TensorCore buffer among all the buffers of a device. -/
abbrev dr (b : Ref sig .tc) : DevRef τ sig := Proc.devRef .tc b

/-- What the buffers hold before the TensorCore's call. -/
def W1 (d : Dev nD) : Valuation τ sig (Elt F) := after ops1 (StableHlo.launchContents m d)
/-- After it: the two tables made. -/
def W2 (d : Dev nD) : Valuation τ sig (Elt F) :=
  Function.update (Function.update (W1 m d) (dr main_v7_0) (made1 (fun c b => W1 m c (dr b)) d)) (dr main_v7_1) (made2 (fun c b => W1 m c (dr b)) d)
/-- Before the SparseCores' call. -/
def W3 (d : Dev nD) : Valuation τ sig (Elt F) := after ops2 (W2 m d)
/-- What that call finds in its operands and results. -/
def A (d : Dev nD) : Ins F where
  ids := W3 m d (dr main_v8)
  t0 := W3 m d (dr main_v2)
  t1 := W3 m d (dr main_v7_0)
  t2 := W3 m d (dr main_v7_1)
  o0 := W3 m d (dr main_v9_0)
  o1 := W3 m d (dr main_v9_1)
  o2 := W3 m d (dr main_v9_2)
/-- After it: the rows looked up. -/
def W4 (d : Dev nD) : Valuation τ sig (Elt F) :=
  Function.update (Function.update (Function.update (W3 m d)
    (dr main_v9_0) (looked (A m d).t0 (A m d).ids)) (dr main_v9_1) (looked (A m d).t1 (A m d).ids)) (dr main_v9_2) (looked (A m d).t2 (A m d).ids)
/-- At the end. -/
def W5 (d : Dev nD) : Valuation τ sig (Elt F) := after ops3 (W4 m d)

/-- The unscoped buffers of the TensorCore. -/
abbrev UB : Finset (DevRef τ sig) := Pipeline.ucRefs τ sig

/-- The first operations work on the unscoped buffers and make no new ones. -/
theorem plain1 : (∀ op ∈ ops1 (F := F), op.bufs ⊆ UB) ∧ ∀ op ∈ ops1 (F := F), op.fresh = ∅ := by
  refine ⟨fun op h => Pipeline.sub_ucRefs op ?_, fun op h => ?_⟩ <;> unfold ops1 at h <;> simp only [List.mem_cons, List.not_mem_nil, or_false] at h <;>
    rcases h with rfl | rfl | rfl | rfl | rfl | rfl | rfl | rfl | rfl <;> first | rfl | simp
/-- So does the one between the calls. -/
theorem plain2 : (∀ op ∈ ops2 (F := F), op.bufs ⊆ UB) ∧ ∀ op ∈ ops2 (F := F), op.fresh = ∅ := by
  refine ⟨fun op h => Pipeline.sub_ucRefs op ?_, fun op h => ?_⟩ <;> unfold ops2 at h <;> simp only [List.mem_cons, List.not_mem_nil, or_false] at h <;>
    subst h <;> first | rfl | simp
/-- So do the last ones. -/
theorem plain3 : (∀ op ∈ ops3 (F := F), op.bufs ⊆ UB) ∧ ∀ op ∈ ops3 (F := F), op.fresh = ∅ := by
  refine ⟨fun op h => Pipeline.sub_ucRefs op ?_, fun op h => ?_⟩ <;> unfold ops3 at h <;> simp only [List.mem_cons, List.not_mem_nil, or_false] at h <;>
    rcases h with rfl | rfl | rfl <;> first | rfl | simp

/-- What the SparseCores' call works on, among the buffers. -/
def callRefs : Finset (DevRef τ sig) :=
  {dr main_v8, dr main_v2, dr main_v7_0, dr main_v7_1, dr main_v9_0, dr main_v9_1, dr main_v9_2}

/-- The SparseCores' call works on unscoped buffers. -/
theorem callRefs_sub : callRefs ⊆ UB := by unfold callRefs; decide

/-- Three parts, the first two together or the last two. -/
theorem sep_right (X Y Z : sProp 𝕄) : iprop((X ∗ Y) ∗ Z) = iprop(X ∗ Y ∗ Z) := by
  refine equiv_iff.mp ⟨(?_ : iprop((X ∗ Y) ∗ Z) ⊢ iprop(X ∗ Y ∗ Z)), (?_ : iprop(X ∗ Y ∗ Z) ⊢ iprop((X ∗ Y) ∗ Z))⟩
  · iintro ⟨⟨HX, HY⟩, HZ⟩
    isplitl [HX]; · iexact HX
    isplitl [HY] <;> iassumption
  · iintro ⟨HX, HY, HZ⟩
    isplitl [HX HY]; · isplitl [HX] <;> iassumption
    iexact HZ

/-- Those buffers held at a valuation are the call's resources at its values. -/
theorem held_callRefs (d : Dev nD) (W : Valuation τ sig (Elt F)) :
    (StableHlo.held (SparseCore.T d) callRefs W : sProp 𝕄)
      = callRes d ⟨W (dr main_v8), W (dr main_v2), W (dr main_v7_0), W (dr main_v7_1), W (dr main_v9_0), W (dr main_v9_1), W (dr main_v9_2)⟩
          (W (dr main_v9_0)) (W (dr main_v9_1)) (W (dr main_v9_2)) := by
  unfold StableHlo.held callRefs callRes
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [sep_right]

/-! ## The launch's resources -/

/-- What a device's TensorCore is given for its own call: the call's cells and the right to run them. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The rounds at the launch: the handshakes', the TensorCore call's, no transfer begun. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The launch's ghost state splits into its parts. -/
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (A m)).x q thr) := by
  unfold u₀
  iintro Hu
  ihave H := (ownU_pair _ _) $$ Hu
  icases H with ⟨HH, HR⟩
  ihave HR' := (own_pair_emb embR _ _) $$ HR
  icases HR' with ⟨HP, -⟩
  ihave HP' := (Entails.of_eq (show BI.own ((Emb.inl.trans embR : Emb UP 𝕄) (initOf (Pipeline.cells (Pipeline.pin (pcfgs (F := F)) adm) cellOf_inj) (Pipeline.launchToks (Pipeline.pin (pcfgs (F := F)) adm) cellOf_inj))) = BI.own ((EP : Emb UP 𝕄) (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP' with ⟨Hg, Ht⟩
  imodintro
  isplitl [HH]; · iexact HH
  isplitl [Hg Ht]
  · rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  have none_left : (bigSep (Finset.univ : Finset (Thread nD τ)) fun _ => iprop(emp)) = (iprop(emp) : sProp 𝕄) := bigSep_emp_const _
  rw [show (bigSep Finset.univ fun thr : Thread nD τ => bigSep Finset.univ fun q : Fin 1 => (P (A m)).x q thr) = bigSep Finset.univ fun _ => (iprop(emp) : sProp 𝕄) from
    bigSep_congr fun _ _ => bigSep_univ_of_subsingleton (0 : Fin 1), none_left]
  iempintro

/-- The TensorCore's debt, taken out of what it holds before the SparseCores' call and put back. -/
theorem tcSt_debt (d : Dev nD) : ((K (F := F)).tcSt EH d 0 : sProp 𝕄) ⊢ iprop(debt d ∗ (debt d -∗ (K (F := F)).tcSt EH d 0)) := by
  unfold SparseCore.Cfg.tcSt
  iintro ⟨H, R⟩
  isplitl [H]; · iexact H
  iintro H
  isplitl [H]; · iexact H
  iexact R

/-! ## The calls' steps -/

/-- After the TensorCore's call the first table is made. -/
theorem W2_made1 (c : Dev nD) : W2 m c (dr main_v7_0) = made1 (fun c b => W1 m c (dr b)) c := by
  unfold W2
  rw [Function.update_of_ne (by decide), Function.update_self]
/-- And the second. -/
theorem W2_made2 (c : Dev nD) : W2 m c (dr main_v7_1) = made2 (fun c b => W1 m c (dr b)) c := by
  unfold W2
  rw [Function.update_self]
/-- That call leaves every other buffer. -/
theorem W2_ne (c : Dev nD) (b : Ref sig .tc) (h0 : b ≠ main_v7_0) (h1 : b ≠ main_v7_1) : W2 m c (dr b) = W1 m c (dr b) := by
  unfold W2
  rw [Function.update_of_ne (fun h => h1 (Proc.devRef_injective _ h)), Function.update_of_ne (fun h => h0 (Proc.devRef_injective _ h))]

variable [∀ e, Nonempty (Elt F e)]

/-- The TensorCore's call, between the buffers at `W1` and the buffers at `W2`. -/
def entry : Pipeline.RegionSeg (pcfgs (F := F)) adm (pdats fun c b => W1 m c (dr b)) none defs₀ 𝒱₀ (K (F := F)).L (K (F := F)).lev 0 :=
  reg (fun c b => W1 m c (dr b)) (fun c b => W2 m c (dr b)) (W2_made1 m) (W2_made2 m) (W2_ne m)

/-- What the TensorCore's call takes. -/
theorem entry_pre (d : Dev nD) : (entry m).pre d = iprop(StableHlo.held (SparseCore.T d) UB (W1 m d) ∗ debt d) :=
  congrArg (fun X => iprop(X ∗ debt d)) (Pipeline.unscopedBufs_held d (W1 m d))
/-- What it gives back. -/
theorem entry_post (d : Dev nD) : (entry m).post d = iprop(StableHlo.held (SparseCore.T d) UB (W2 m d) ∗ debt d) :=
  congrArg (fun X => iprop(X ∗ debt d)) (Pipeline.unscopedBufs_held d (W2 m d))

set_option backward.isDefEq.respectTransparency.types false in
/-- The TensorCore's call runs from the one to the other. -/
theorem wp_entry (κ : GSem nD τ sig → ℕ) (d : Dev nD) (Q : PUnit → sProp 𝕄) :
    iprop((iprop(boundary (SparseCore.T d) ∗ StableHlo.held (SparseCore.T d) UB (W2 m d) ∗ debt d) -∗ Q ⟨⟩)
        ∗ boundary (SparseCore.T d) ∗ (StableHlo.held (SparseCore.T d) UB (W1 m d) ∗ debt d) ∗ (K (F := F)).ctx EH (P (A m)) κ ∗ G d)
      ⊢ wp frame (wpE ((K (F := F)).defs (D (F := F))) 𝒱 (SparseCore.T d) none) Set.univ
          (Prog.lift (.customCall (SparseCore.inner (Pipeline.entry 0)) ())) Q := by
  have lift := (K (F := F)).wp_liftProg (D (F := F)) 𝒱 (SparseCore.T d) Set.univ none
    (.op (.customCall (Pipeline.entry 0) ()) .ret : Prog (TpuEff nD τ sig (Elt F) (ΛP (F := F)) .tc) PUnit) Q
  refine BIBase.Entails.trans ?_ lift
  refine BIBase.Entails.trans ?_ (Pipeline.RegionSeg.wp (pcfgs (F := F)) adm (pdats fun c b => W1 m c (dr b)) none cellOf_inj EP defs₀ 𝒱₀ (K (F := F)).L (K (F := F)).lev
    (entry m) d none (fun u h => nomatch h) .ret Q)
  rw [entry_pre, entry_post]
  iintro ⟨Hk, Hb, Hh, Hctx, Hg, Ht⟩
  isplitl [Hk]
  · iintro H
    rw [wp_ret]; imodintro
    iapply Hk; iexact H
  isplitl [Hb]; · iexact Hb
  isplitl [Hh]; · iexact Hh
  isplitl [Hctx]; · iapply (SparseCore.Cfg.ctx_levAts κ) $$ Hctx
  isplitl [Hg] <;> iassumption

/-- The outputs, among the buffers. -/
def outRefs : Finset (DevRef τ sig) := {dr main_v9_0, dr main_v9_1, dr main_v9_2}
/-- The results are among the buffers of the call. -/
theorem outRefs_sub : outRefs ⊆ callRefs := by decide

/-! What the buffers hold after the call: the outputs the rows looked up, the others what they held. -/
theorem W4_rest (d : Dev nD) (b : DevRef τ sig) (hb : b ∉ outRefs) : W4 m d b = W3 m d b := by
  have h (r : DevRef τ sig) (hr : r ∈ outRefs) : b ≠ r := fun e => hb (e ▸ hr)
  unfold W4
  rw [Function.update_of_ne (h _ (by decide)), Function.update_of_ne (h _ (by decide)), Function.update_of_ne (h _ (by decide))]
/-- The first result holds the rows looked up in the first table. -/
theorem W4_out0 (d : Dev nD) : W4 m d (dr main_v9_0) = looked (A m d).t0 (A m d).ids := by
  unfold W4
  rw [Function.update_of_ne (by decide), Function.update_of_ne (by decide), Function.update_self]
/-- The second result, those of the second table. -/
theorem W4_out1 (d : Dev nD) : W4 m d (dr main_v9_1) = looked (A m d).t1 (A m d).ids := by
  unfold W4
  rw [Function.update_of_ne (by decide), Function.update_self]
/-- The third result, those of the third table. -/
theorem W4_out2 (d : Dev nD) : W4 m d (dr main_v9_2) = looked (A m d).t2 (A m d).ids := by
  unfold W4
  rw [Function.update_self]

/-- Before the SparseCores' call: its resources out of the buffers. -/
theorem call_in (d : Dev nD) : (StableHlo.held (SparseCore.T d) UB (W3 m d) : sProp 𝕄)
    = iprop(callRes d (A m d) (A m d).o0 (A m d).o1 (A m d).o2 ∗ StableHlo.held (SparseCore.T d) (UB \ callRefs) (W3 m d)) := by
  rw [StableHlo.held_sub_split _ callRefs_sub, held_callRefs]
  rfl

/-- After it: put back, the outputs at the rows looked up. -/
theorem call_out (d : Dev nD) : (StableHlo.held (SparseCore.T d) UB (W4 m d) : sProp 𝕄)
    = iprop(callRes d (A m d) (looked (A m d).t0 (A m d).ids) (looked (A m d).t1 (A m d).ids) (looked (A m d).t2 (A m d).ids)
        ∗ StableHlo.held (SparseCore.T d) (UB \ callRefs) (W3 m d)) := by
  rw [StableHlo.held_sub_split _ callRefs_sub, held_callRefs,
    StableHlo.held_congr (S := UB \ callRefs) (V' := W3 m d) _ fun b hb => W4_rest m d b (fun h => (Finset.mem_sdiff.mp hb).2 (outRefs_sub h))]
  unfold callRes
  simp only [W4_rest m d (dr main_v8) (by decide), W4_rest m d (dr main_v2) (by decide), W4_rest m d (dr main_v7_0) (by decide), W4_rest m d (dr main_v7_1) (by decide),
    A]
  rw [W4_out0, W4_out1, W4_out2]
  simp only [A]

/-! ## @main on the TensorCore -/

/-- What the TensorCore ends with: its buffers at `W5`. -/
abbrev FIN (d : Dev nD) : sProp 𝕄 := StableHlo.held (SparseCore.T d) UB (W5 m d)

set_option backward.isDefEq.respectTransparency.types false in
/-- The program on a device's TensorCore. -/
theorem hmain (κ : GSem nD τ sig → ℕ) (d : Dev nD) :
    iprop((K (F := F)).ctx EH (P (A m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_lines]
  iintro ⟨#Hctx, Hst, ⟨Hb, Hu, Hts, -⟩, HG⟩
  ihave Hh := (Entails.of_eq (Pipeline.unscopedBufs_held d (StableHlo.launchContents m d))) $$ Hu
  iapply (StableHlo.wp_seq 𝒱 none Set.univ d UB _ ops1 plain1.1 plain1.2 (StableHlo.launchContents m d)) $$ [Hb Hh]
  · isplitl [Hb] <;> iassumption
  iintro ⟨Hb, Hh⟩
  rw [wp_bind]
  ihave Hst' := (tcSt_debt d) $$ Hst
  icases Hst' with ⟨Hd, Hback⟩
  iapply (wp_entry m κ d)
  isplitr [Hb Hh Hd HG]
  · iintro ⟨Hb, Hh, Hd⟩
    ispecialize Hback $$ Hd
    iapply (StableHlo.wp_seq 𝒱 none Set.univ d UB _ ops2 plain2.1 plain2.2 (W2 m d)) $$ [Hb Hh]
    · isplitl [Hb] <;> iassumption
    iintro ⟨Hb, Hh⟩
    rw [wp_bind]
    ihave Hh' := (Entails.of_eq (show StableHlo.held (SparseCore.T d) UB (after ops2 (W2 m d)) = _ from call_in m d)) $$ Hh
    icases Hh' with ⟨Hc, Hr⟩
    iapply ((K (F := F)).wp_run (D (F := F)) 𝒱 (EH := EH) (P := P (A m)) κ d 0)
    isplitr; · iexact Hctx
    isplitl [Hback]; · iexact Hback
    isplitl [Hc]; · rw [st_eq]; iexact Hc
    iintro ⟨Hst, Hdn⟩
    ihave Hc := (Entails.of_eq (dn_eq d (A m))) $$ Hdn
    ihave Hh := (Entails.of_eq (call_out m d).symm) $$ [Hc Hr]
    · isplitl [Hc] <;> iassumption
    iapply (StableHlo.wp_seq 𝒱 none Set.univ d UB _ ops3 plain3.1 plain3.2 (W4 m d)) $$ [Hb Hh]
    · isplitl [Hb] <;> iassumption
    iintro ⟨Hb, Hh⟩
    rw [wp_pure]; imodintro
    isplitl [Hst]; · iexact Hst
    isplitl [Hh]; · iexact Hh
    isplitl [Hb] <;> iassumption
  isplitl [Hb]; · iexact Hb
  isplitl [Hh Hd]; · (isplitl [Hh]; · iexact Hh); iexact Hd
  isplitr; · iexact Hctx
  iexact HG

/-- The final memory agrees with it. -/
def fq (d : Dev nD) (s' : Phys nD τ sig (Elt F)) : Prop := ∀ b ∈ UB, s'.mem.mem (d, b) = W5 m d b

/-- What the TensorCore holds at the end is what the memory holds. -/
theorem hfin (d : Dev nD) (s' : Phys nD τ sig (Elt F)) : iprop(FIN m d ∗ SI s') ⊢ (⌜fq m d s'⌝ : sProp 𝕄) := by
  have key (b : DevRef τ sig) (hb : b ∈ UB) : iprop(FIN m d ∗ SI s') ⊢ (⌜s'.mem.mem (d, b) = W5 m d b⌝ : sProp 𝕄) := by
    unfold FIN
    rw [StableHlo.held_sub_split _ (Finset.singleton_subset_iff.mpr hb)]
    unfold StableHlo.held
    rw [bigSep_singleton]
    iintro ⟨⟨Hb, -⟩, HSI⟩
    ihave H := (SI_pointsTo_agree (st := s') (ℓ := (d, b)) (I := Finset.univ) (q := fullShare) (f := W5 m d b)) $$ [HSI Hb]
    · isplitl [HSI] <;> iassumption
    icases H with %h
    ipureintro; exact funext fun i => h i (Finset.mem_univ i)
  have all : iprop(FIN m d ∗ SI s') ⊢ (iprop(∀ b, ⌜b ∈ UB → s'.mem.mem (d, b) = W5 m d b⌝) : sProp 𝕄) := forall_intro fun b => by
    by_cases hb : b ∈ UB
    · exact (key b hb).trans (Laws.pure_mono fun h _ => h)
    · exact BIClass.pure_intro fun h => absurd h hb
  exact all.trans pure_forall.2

/-- The program's run ends with every semaphore at zero and every buffer of the TensorCore's at `W5`. -/
theorem run_main (hA : RowsOK (A m)) :
    θ_run (defs (F := F)) (threads (F := F)) ⟨m, fun _ => 0, ρ⟩ fun r => (∀ d : Dev nD, ∀ b ∈ UB, r.2.mem (d, b) = W5 m d b) ∧ r.2.sem = fun _ => 0 :=
  SparseCore.Cfg.θ_run_sc_quiescent (K := K (F := F)) (D := D (F := F)) (𝒱 := 𝒱) (EH := EH) (P := P (A m)) (A := ∅) launchFacts v₀
    (fun q hq => match q with | 0 => nomatch hq)
    (fun q _ => match q with | 0 => tileObl (A m) hA)
    (fun q _ => match q with | 0 => SparseCore.Cfg.VecSplit.of_plain (vecSplit (A m)))
    m ρ main G (FIN m) (u₀ (F := F)) (sep_elim_left.trans (hu₀ m)) (hmain m ρ) (fq m) (hfin m) _ (fun _ h hz => ⟨h, hz⟩)

end Cert.Proof.RunI

end
-- ==== Proof.EndsI.lean ====
/-
  What the buffers hold at the end of the program, in terms of the arguments.
-/
module

public import proofs.«01_k».proof.Proof.MainI
public import Idealize.ShloMosaic.Lib.StableHlo.RunRead

@[expose] public section

noncomputable section

namespace Cert.Proof.RunI

open Idealize.ShloMosaic.TcCoe
open Idealize.ShloMosaic.StableHlo (after seq)
open Cert.KernelIdeal Cert.KernelIdeal.Gen
open Idealize.ShloMosaic Idealize.ShloMosaic.ValueIdx
open Idealize.SL.Sem

variable {F : FTy → Type} [FloatOps F]
variable (m : (ℓ : Loc nD τ sig) → Buf (Elt F) ℓ) (ρ : Dev nD → PrngReg)

/-! ## What is written where -/

/-- What the operations before the TensorCore's call write. -/
def wr1 : List (Ref sig .tc) := [main_cst, main_v0, main_c, main_v1, main_v2, main_v3, main_v4, main_v5, main_v6]
/-- What the operations after the SparseCores' call write. -/
def wr3 : List (Ref sig .tc) := [main_v10, main_v11, main_v12]

/-- The first operations leave what they do not write. -/
theorem W1_kept (d : Dev nD) (b : Ref sig .tc) (h : b ∉ wr1) : W1 m d (dr b) = m (d, dr b) :=
  StableHlo.after_unwritten wr1 rfl h _
/-- So does the one between the calls. -/
theorem W3_kept (d : Dev nD) (b : Ref sig .tc) (h : b ≠ main_v8) : W3 m d (dr b) = W2 m d (dr b) :=
  StableHlo.after_unwritten [main_v8] rfl (by simpa using h) _
/-- So do the last ones. -/
theorem W5_kept (d : Dev nD) (b : Ref sig .tc) (h : b ∉ wr3) : W5 m d (dr b) = W4 m d (dr b) :=
  StableHlo.after_unwritten wr3 rfl h _

/-- The arguments. -/
def argRefs : List (Ref sig .tc) := [main_arg0, main_arg1, main_arg2, main_arg3, main_arg4, main_arg5]

/-- Nothing writes an argument. -/
theorem arg_spare : ∀ b ∈ argRefs, b ∉ wr1 ∧ b ≠ main_v8 ∧ b ∉ wr3 ∧ dr b ∉ outRefs ∧ b ≠ main_v7_0 ∧ b ≠ main_v7_1 ∧ dr b ∈ UB := by
  decide

/-- An argument is at the end what it was at the start. -/
theorem arg_kept (d : Dev nD) (b : Ref sig .tc) (h : b ∈ argRefs) : W5 m d (dr b) = m (d, dr b) := by
  obtain ⟨h1, h2, h3, h4, h5, h6, -⟩ := arg_spare b h
  rw [W5_kept m d b h3, W4_rest m d _ h4, W3_kept m d b h2, W2_ne m d _ h5 h6, W1_kept m d b h1]

/-! ## What the calls find -/

/-- The first table is zeros with the embedding set into its first rows. -/
theorem W1_v2 (d : Dev nD) : W1 m d (dr main_v2)
    = Host.scatter scatter_S128x128_S1_S100x128_01_n_0_0 (fun _ b => b) (broadcastInDim S128x128 ![] bcast_S_S128x128 (constant S_ .f32 0x00000000#32))
        (broadcastInDim S1 ![] bcast_S_S1 (constantI S_ 32 0#32)) (m (d, dr main_arg1)) := by
  unfold W1 ops1; after_results
/-- The first weights, transposed. -/
theorem W1_v3 (d : Dev nD) : W1 m d (dr main_v3) = transpose S128x128 [1, 0] (m (d, dr main_arg2)) transposes_S128x128_S128x128_1_0 := by
  unfold W1 ops1; after_results
/-- The first bias, as a row. -/
theorem W1_v4 (d : Dev nD) : W1 m d (dr main_v4) = shapeCast S1x128 (m (d, dr main_arg3)) shapeCasts_S128_S1x128 := by
  unfold W1 ops1; after_results; rfl
/-- The second weights, transposed. -/
theorem W1_v5 (d : Dev nD) : W1 m d (dr main_v5) = transpose S128x128 [1, 0] (m (d, dr main_arg4)) transposes_S128x128_S128x128_1_0 := by
  unfold W1 ops1; after_results
/-- The second bias, as a row. -/
theorem W1_v6 (d : Dev nD) : W1 m d (dr main_v6) = shapeCast S1x128 (m (d, dr main_arg5)) shapeCasts_S128_S1x128 := by
  unfold W1 ops1; after_results; rfl

/-- The row numbers, laid out a block to a row. -/
theorem A_ids (d : Dev nD) : (A m d).ids = shapeCast S256x128 (m (d, dr main_arg0)) shapeCasts_S4x8192_S256x128 := by
  have e : W2 m d (dr main_arg0) = m (d, dr main_arg0) := by
    rw [W2_ne m d _ (by decide) (by decide), W1_kept m d _ (by decide)]
  rw [← e]
  show after ops2 (W2 m d) (dr main_v8) = _
  unfold ops2; after_results; rfl

/-- The tables the SparseCores look rows up in. -/
theorem A_t0 (d : Dev nD) : (A m d).t0 = W1 m d (dr main_v2) := by
  have e : W3 m d (dr main_v2) = W1 m d (dr main_v2) := by rw [W3_kept m d main_v2 (by decide), W2_ne m d main_v2 (by decide) (by decide)]
  unfold A
  dsimp only
  exact e
/-- The second table is the one the TensorCore makes first. -/
theorem A_t1 (d : Dev nD) : (A m d).t1 = made1 (fun c b => W1 m c (dr b)) d :=
  (W3_kept m d main_v7_0 (by decide)).trans (W2_made1 m d)
/-- The third table is the one it makes second. -/
theorem A_t2 (d : Dev nD) : (A m d).t2 = made2 (fun c b => W1 m c (dr b)) d :=
  (W3_kept m d main_v7_1 (by decide)).trans (W2_made2 m d)

/-- Row numbers below 100 are rows of the tables. -/
theorem rowsOK (h : ∀ (d : Dev nD) (i : S4x8192.Idx), ((m (d, dr main_arg0) : IVec S4x8192 32) i).toNat < 100) : RowsOK (A m) := fun d x => by
  rw [A_ids]
  exact (h d _).trans (by decide)

/-! ## What the program leaves -/

/-- The first result in the shape asked for. -/
theorem W5_v10 (d : Dev nD) : W5 m d (dr main_v10) = shapeCast S4x8192x128 (looked (A m d).t0 (A m d).ids) shapeCasts_S32768x128_S4x8192x128 := by
  rw [← W4_out0]
  unfold W5 ops3; after_results; rfl
/-- The second. -/
theorem W5_v11 (d : Dev nD) : W5 m d (dr main_v11) = shapeCast S4x8192x128 (looked (A m d).t1 (A m d).ids) shapeCasts_S32768x128_S4x8192x128 := by
  rw [← W4_out1]
  unfold W5 ops3; after_results; rfl
/-- The third. -/
theorem W5_v12 (d : Dev nD) : W5 m d (dr main_v12) = shapeCast S4x8192x128 (looked (A m d).t2 (A m d).ids) shapeCasts_S32768x128_S4x8192x128 := by
  rw [← W4_out2]
  unfold W5 ops3; after_results; rfl

/-- The results are unscoped buffers. -/
theorem results_UB : dr main_v10 ∈ UB ∧ dr main_v11 ∈ UB ∧ dr main_v12 ∈ UB := by decide

/-- The program's run with the row numbers below 100: the three results are rows looked up in the three tables, the arguments are kept, and every semaphore is at zero. -/
theorem run_ends [∀ e, Nonempty (Elt F e)] (h : ∀ (d : Dev nD) (i : S4x8192.Idx), ((m (d, dr main_arg0) : IVec S4x8192 32) i).toNat < 100) :
    θ_run (defs (F := F)) (threads (F := F)) ⟨m, fun _ => 0, ρ⟩ fun r =>
      (∀ d : Dev nD,
        r.2.mem (d, dr main_v10) = shapeCast S4x8192x128 (looked (A m d).t0 (A m d).ids) shapeCasts_S32768x128_S4x8192x128
        ∧ r.2.mem (d, dr main_v11) = shapeCast S4x8192x128 (looked (A m d).t1 (A m d).ids) shapeCasts_S32768x128_S4x8192x128
        ∧ r.2.mem (d, dr main_v12) = shapeCast S4x8192x128 (looked (A m d).t2 (A m d).ids) shapeCasts_S32768x128_S4x8192x128
        ∧ ∀ b ∈ argRefs, r.2.mem (d, dr b) = m (d, dr b))
      ∧ r.2.sem = fun _ => 0 :=
  (θ_run (defs (F := F)) (threads (F := F)) ⟨m, fun _ => 0, ρ⟩).mono (fun _ hr => ⟨fun d =>
      ⟨(hr.1 d _ results_UB.1).trans (W5_v10 m d), (hr.1 d _ results_UB.2.1).trans (W5_v11 m d), (hr.1 d _ results_UB.2.2).trans (W5_v12 m d),
        fun b hb => (hr.1 d _ (arg_spare b hb).2.2.2.2.2.2).trans (arg_kept m d b hb)⟩, hr.2⟩)
    (run_main m ρ (rowsOK m h))

end Cert.Proof.RunI

end
-- ==== Proof.RefVal.lean ====
/-
  What the reference leaves, read at an index, with the row numbers below 100.
-/
module

public import proofs.«01_k».proof.Proof.Gen.ReferenceIdeal.Run
public import Idealize.ShloMosaic.Lib.ReduceAll
public import Idealize.ShloMosaic.Lib.ValueIdx
public import Idealize.ShloMosaic.Lib.ValueLayout
public import Idealize.ShloMosaic.Lib.MatmulPlain

@[expose] public section

noncomputable section

namespace Cert.Proof.RefVal

open Cert.ReferenceIdeal Cert.ReferenceIdeal.Gen
open Idealize.ShloMosaic Idealize.ShloMosaic.ValueIdx Idealize.ShloMosaic.TcCoe
open Idealize.SL.Sem
open scoped BigOperators

/-- Row numbers as `jnp.take` reads them: a negative one counted from the end. -/
def wrapped (ids : IVec S4x8192 32) : IVec S4x8192 32 :=
  select (cmpi .slt ids (broadcastInDim S4x8192 ![] bcast_S_S4x8192 (constantI S_ 32 0#32)))
    (addi ids (broadcastInDim S4x8192 ![] bcast_S_S4x8192 (constantI S_ 32 100#32))) ids

/-- The rows of the embedding at the row numbers, as `jnp.take` computes them: a row out of the table is filled. -/
def taken (ids : IVec S4x8192 32) (E : FVec Ideal S100x128 .f32) : FVec Ideal S4x8192x128 .f32 :=
  select
    (broadcastInDim S4x8192x128 ![0, 1] bcast_S4x8192_S4x8192x128_0_1
      (Host.reduce IntOp.andi
        (andi
          (cmpi .sge (broadcastInDim S4x8192x1 ![0, 1] bcast_S4x8192_S4x8192x1_0_1 (wrapped ids)) (broadcastInDim S4x8192x1 ![] bcast_S_S4x8192x1 (constantI S_ 32 0#32)))
          (cmpi .sle (broadcastInDim S4x8192x1 ![0, 1] bcast_S4x8192_S4x8192x1_0_1 (wrapped ids))
            (broadcastInDim S4x8192x1 ![0, 1, 2] bcast_S1x1x1_S4x8192x1_0_1_2 (broadcastInDim S1x1x1 ![2] bcast_S1_S1x1x1_2 (constantI S1 32 99#32)))))
        (constantI S_ 1 1#1) reducesTo_S4x8192x1_S4x8192_d2 h_S_))
    (Host.gather gather_S100x128_S4x8192x1_S4x8192x128_2_0_n_n_0_2_1128 E (broadcastInDim S4x8192x1 ![0, 1] bcast_S4x8192_S4x8192x1_0_1 (wrapped ids)))
    (broadcastInDim S4x8192x128 ![] bcast_S_S4x8192x128 (constant S_ .f32 0x7FC00000#32))

/-- The rows of `X` times the transpose of `W`, plus `b`. -/
def affine (X : FVec Ideal S4x8192x128 .f32) (W : FVec Ideal S128x128 .f32) (b : FVec Ideal S128 .f32) : FVec Ideal S4x8192x128 .f32 :=
  addf (Host.dotGeneral dot_S4x8192x128_S128x128_S4x8192x128_2_0_01_1_n_n none X (transpose S128x128 [1, 0] W transposes_S128x128_S128x128_1_0))
    (broadcastInDim S4x8192x128 ![0, 1, 2] bcast_S1x1x128_S4x8192x128_0_1_2 (broadcastInDim S1x1x128 ![2] bcast_S128_S1x1x128_2 b))

/-- A bit is one exactly when it stands for true. -/
theorem bit_of : ∀ a : Bool, BitVec.ofBool a = 1#1 ↔ a = true := by decide

/-- A word below 100 is not negative. -/
theorem not_neg (v : BitVec 32) (h : v.toNat < 100) : IntOp.cmpi .slt v 0#32 = 0#1 := by
  refine eq_zero_of_ne_one fun e => ?_
  simp only [IntOp.cmpi, bit_of, BitVec.slt_eq_decide, decide_eq_true_eq, BitVec.toInt_eq_toNat_cond, BitVec.toNat_ofNat, Nat.reducePow, Nat.reduceMod] at e
  omega

/-- A word below 100 is at least zero and at most 99. -/
theorem inside (v : BitVec 32) (h : v.toNat < 100) : IntOp.andi (IntOp.cmpi .sge v 0#32) (IntOp.cmpi .sle v 99#32) = 1#1 := by
  have e1 : IntOp.cmpi .sge v 0#32 = 1#1 := by
    simp only [IntOp.cmpi, bit_of, BitVec.sle_eq_decide, decide_eq_true_eq, BitVec.toInt_eq_toNat_cond, BitVec.toNat_ofNat, Nat.reducePow, Nat.reduceMod]
    omega
  have e2 : IntOp.cmpi .sle v 99#32 = 1#1 := by
    simp only [IntOp.cmpi, bit_of, BitVec.sle_eq_decide, decide_eq_true_eq, BitVec.toInt_eq_toNat_cond, BitVec.toNat_ofNat, Nat.reducePow, Nat.reduceMod]
    omega
  rw [e1, e2]; decide

variable {ids : IVec S4x8192 32} (h : ∀ i, (ids i).toNat < 100)
include h

/-- Row numbers below 100 are read as they are. -/
theorem wrapped_eq : wrapped ids = ids := by
  funext i
  show Scalar.select (IntOp.cmpi .slt (ids i) 0#32) _ (ids i) = ids i
  rw [not_neg _ (h i), select_zero]

/-- The gather reads, at `(i, j, c)`, the row of `(i, j)`'s number. -/
theorem gather_at (E : FVec Ideal S100x128 .f32) (i : Fin 4) (j : Fin 8192) (c : Fin 128) :
    Host.gather gather_S100x128_S4x8192x1_S4x8192x128_2_0_n_n_0_2_1128 E (broadcastInDim S4x8192x1 ![0, 1] bcast_S4x8192_S4x8192x1_0_1 ids) (ix3 i j c)
      = E (ix2 ⟨(ids (ix2 i j)).toNat, h _⟩ c) := by
  have word : ((broadcastInDim S4x8192x1 ![0, 1] bcast_S4x8192_S4x8192x1_0_1 ids) (ix3 i j 0)) = ids (ix2 i j) :=
    broadcastInDim_apply _ _ _ _ _ fun a => match a with | ⟨0, _⟩ => rfl | ⟨1, _⟩ => rfl
  unfold Host.gather
  refine congrArg E (funext fun a => Fin.ext ?_)
  have h01 : a = 0 ∨ a = 1 := match a with | ⟨0, _⟩ => Or.inl rfl | ⟨1, _⟩ => Or.inr rfl
  let D : GatherDims S100x128 S4x8192x1 S4x8192x128 := gather_S100x128_S4x8192x1_S4x8192x128_2_0_n_n_0_2_1128
  set idx : IVec S4x8192x1 32 := broadcastInDim S4x8192x1 ![0, 1] bcast_S4x8192_S4x8192x1_0_1 ids with hidx
  show D.start (ix3 i j c) idx a + D.batchCoord (ix3 i j c) a + D.offCoord (ix3 i j c) a = _
  rw [GatherDims.batchCoord_eq_zero _ _ _ List.not_mem_nil, Nat.add_zero]
  rcases h01 with rfl | rfl
  · rw [GatherDims.offCoord_eq_zero _ _ _ (fun g => ((GatherDims.mem_sKept _ _).mp g).1 (List.mem_singleton.mpr rfl)), Nat.add_zero]
    unfold GatherDims.start
    rw [dif_pos (show (0 : Fin 2) ∈ D.startIndexMap from List.mem_singleton.mpr rfl)]
    have hsi : D.siIdx (ix3 i j c) ⟨List.idxOf (0 : Fin 2) D.startIndexMap, List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, word]
    show min (ids (ix2 i j)).toInt.toNat 99 = (ids (ix2 i j)).toNat
    have := h (ix2 i j)
    rw [BitVec.toInt_eq_toNat_cond]
    omega
  · have hs : D.start (ix3 i j c) idx 1 = 0 := by
      unfold GatherDims.start
      exact dif_neg (show (1 : Fin 2) ∉ D.startIndexMap from by show (1 : Fin 2) ∉ [(0 : Fin 2)]; decide)
    rw [hs, Nat.zero_add]
    unfold GatherDims.offCoord
    rw [dif_pos (show (1 : Fin 2) ∈ D.sKept from (GatherDims.mem_sKept _ _).mpr ⟨show (1 : Fin 2) ∉ [(0 : Fin 2)] by decide, List.not_mem_nil⟩)]
    rfl

/-- Every row number lies in the table, so nothing is filled: the reference's first result at `(i, j, c)`. -/
theorem taken_at (E : FVec Ideal S100x128 .f32) (i : Fin 4) (j : Fin 8192) (c : Fin 128) :
    taken ids E (ix3 i j c) = E (ix2 ⟨(ids (ix2 i j)).toNat, h _⟩ c) := by
  unfold taken
  rw [wrapped_eq h, select_apply, gather_at h]
  have e : (broadcastInDim S4x8192x128 ![0, 1] bcast_S4x8192_S4x8192x128_0_1
      (Host.reduce IntOp.andi
        (andi
          (cmpi .sge (broadcastInDim S4x8192x1 ![0, 1] bcast_S4x8192_S4x8192x1_0_1 ids) (broadcastInDim S4x8192x1 ![] bcast_S_S4x8192x1 (constantI S_ 32 0#32)))
          (cmpi .sle (broadcastInDim S4x8192x1 ![0, 1] bcast_S4x8192_S4x8192x1_0_1 ids)
            (broadcastInDim S4x8192x1 ![0, 1, 2] bcast_S1x1x1_S4x8192x1_0_1_2 (broadcastInDim S1x1x1 ![2] bcast_S1_S1x1x1_2 (constantI S1 32 99#32)))))
        (constantI S_ 1 1#1) reducesTo_S4x8192x1_S4x8192_d2 h_S_)) (ix3 i j c) = 1#1 :=
    Host.reduce_andi_one _ _ _ _ _ rfl fun x => inside _ (h _)
  rw [e, select_one]

omit h in
/-- The affine map at an index. -/
theorem affine_at (X : FVec Ideal S4x8192x128 .f32) (W : FVec Ideal S128x128 .f32) (b : FVec Ideal S128 .f32) (i : Fin 4) (j : Fin 8192) (c : Fin 128) :
    affine X W b (ix3 i j c) = (∑ k : Fin 128, X (ix3 i j k) * W (ix2 c k)) + b (ix1 c) := by
  have hr : dot_S4x8192x128_S128x128_S4x8192x128_2_0_01_1_n_n.contr.rank = 1 := rfl
  have hs : dot_S4x8192x128_S128x128_S4x8192x128_2_0_01_1_n_n.contr.size ⟨0, by rw [hr]; exact Nat.one_pos⟩ = 128 := rfl
  unfold affine
  rw [addf_apply]
  congr 1
  · show FloatOps.dotGeneral _ none _ _ _ _ = _
    rw [Ideal.dotGeneral_apply, ← Equiv.sum_comp (contrEquiv1 _ 128 hr hs).symm]
    refine Finset.sum_congr rfl fun k _ => ?_
    have hk := contrEquiv1_symm_val _ 128 hr hs k
    have el : dot_S4x8192x128_S128x128_S4x8192x128_2_0_01_1_n_n.lhsIdx (ix3 i j c) ((contrEquiv1 _ 128 hr hs).symm k) = ix3 i j k := by
      funext a; apply Fin.ext
      match a with
      | ⟨0, _⟩ => rfl
      | ⟨1, _⟩ => rfl
      | ⟨2, _⟩ => exact hk
    have er : dot_S4x8192x128_S128x128_S4x8192x128_2_0_01_1_n_n.rhsIdx (ix3 i j c) ((contrEquiv1 _ 128 hr hs).symm k) = ix2 k c := by
      funext a; apply Fin.ext
      match a with
      | ⟨0, _⟩ => exact hk
      | ⟨1, _⟩ => rfl
    rw [el, er, transpose_ix2_apply]
  · refine (broadcastInDim_apply _ _ _ _ (ix3 0 0 c) fun a => match a with | ⟨0, _⟩ => rfl | ⟨1, _⟩ => rfl | ⟨2, _⟩ => rfl).trans ?_
    exact broadcastInDim_apply _ _ _ _ (ix1 c) fun a => match a with | ⟨0, _⟩ => rfl

omit h in
/-- The reference's run: its three results, and the arguments kept. -/
theorem run_ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_v5)
        = affine (taken (m ((c.tc : Thread nD τ).loc main_arg0)) (m ((c.tc : Thread nD τ).loc main_arg1))) (m ((c.tc : Thread nD τ).loc main_arg2)) (m ((c.tc : Thread nD τ).loc main_arg3))
      ∧ r.2.mem ((c.tc : Thread nD τ).loc main_v10)
        = affine (affine (taken (m ((c.tc : Thread nD τ).loc main_arg0)) (m ((c.tc : Thread nD τ).loc main_arg1))) (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.Proof.RefVal

end
-- ==== Proof.KerVal.lean ====
/-
  What the kernel leaves, read at an index, over the extended reals.
-/
module

public import proofs.«01_k».proof.Proof.EndsI
public import Idealize.ShloMosaic.Lib.Routing.OpsPair
public import Idealize.ShloMosaic.Lib.Routing.OpsSet
public import Idealize.ShloMosaic.Lib.ValueLayout
public import Idealize.ShloMosaic.Lib.MatmulPlain

@[expose] public section

noncomputable section

namespace Cert.Proof.KerVal

open Cert.KernelIdeal Cert.KernelIdeal.Gen Cert.Proof.RunI
open Idealize.ShloMosaic Idealize.ShloMosaic.ValueIdx Idealize.ShloMosaic.TcCoe
open scoped BigOperators

/-! ## The first table: the embedding, its rows from 100 on zero -/

/-- The embedding set into the first rows of a table reads, in those rows, as the embedding. -/
theorem padded_at (z : FVec Ideal S128x128 .f32) (E : FVec Ideal S100x128 .f32) (r : Fin 128) (hr : r.val < 100) (c : Fin 128) :
    Host.scatter scatter_S128x128_S1_S100x128_01_n_0_0 (fun _ b => b) z (broadcastInDim S1 ![] bcast_S_S1 (constantI S_ 32 0#32)) E (ix2 r c)
      = E (ix2 ⟨r.val, hr⟩ c) := by
  let D : ScatterDims S128x128 S1 S100x128 := scatter_S128x128_S1_S100x128_01_n_0_0
  set at0 : IVec S1 32 := broadcastInDim S1 ![] bcast_S_S1 (constantI S_ 32 0#32) with hat
  have start (k : S100x128.Idx) (a : Fin 2) : D.start k at0 a = 0 := by
    unfold ScatterDims.start
    split
    · rfl
    · rfl
  have win0 (k : S100x128.Idx) : D.window k 0 = (k 0).val := rfl
  have win1 (k : S100x128.Idx) : D.window k 1 = (k 1).val := rfl
  have lands (k : S100x128.Idx) : D.resultIdx? k at0 = some (ix2 r c) ↔ (k 0).val = r.val ∧ (k 1).val = c.val := by
    refine (Routing.resultIdx?_ix2 (R := 128) (C := 128) D k at0 r c).trans ?_
    have e0 := start k 0
    have e1 := start k 1
    have w0 := win0 k
    have w1 := win1 k
    rw [e0, e1, w0, w1]
    omega
  refine Routing.scatter_set_hit D z at0 E (ix2 r c) _ (fun k hk => ?_) (ix2 ⟨r.val, hr⟩ c) ((lands _).mpr ⟨rfl, rfl⟩)
  rw [eq_ix2 k]
  obtain ⟨h0, h1⟩ := (lands k).mp hk
  exact congrArg₂ (fun a b => E (ix2 a b)) (Fin.ext h0) (Fin.ext h1)

/-! ## The tables made out of it -/

/-- One table out of another at an index: the row times the transpose of `W`, plus `b`. -/
theorem step_at (t W : FVec Ideal S128x128 .f32) (b : FVec Ideal S128 .f32) (r c : Fin 128) :
    k0_pay1 (F := Ideal) t (transpose S128x128 [1, 0] W transposes_S128x128_S128x128_1_0) (shapeCast S1x128 b shapeCasts_S128_S1x128) (ix2 r c)
      = (∑ k : Fin 128, t (ix2 r k) * W (ix2 c k)) + b (ix1 c) := by
  have self {s : Shape} {α : Type} (x : s.Idx → α) (h : s.ShapeCasts s) : shapeCast s x h = x :=
    funext fun j => shapeCast_apply x h j j rfl
  unfold k0_pay1
  simp only [self]
  rw [addf_apply]
  refine congrArg₂ (· + ·) ?_ ?_
  · refine (Ideal.matmul_plain_apply (M := 128) (K := 128) (N := 128) none t _ _ r c).trans ?_
    show Ideal.ofBits .f32 0x00000000#32 + _ = _
    rw [Ideal.ofBits_zero_f32, zero_add]
    exact Finset.sum_congr rfl fun k _ => by rw [transpose_ix2_apply]
  · exact (broadcastTo_1b_ab_apply _ _ r c).trans (shapeCast_a_1a_apply _ _ 0 c)

/-- The second table is made out of the first as the first is out of the embedding. -/
theorem pay2_eq (t u : Vec Ideal S128x128 .f32) (b : Vec Ideal S1x128 .f32) (w : Vec Ideal S128x128 .f32) (v : Vec Ideal S1x128 .f32) :
    k0_pay2 (F := Ideal) t u b w v = k0_pay1 (F := Ideal) (k0_pay1 (F := Ideal) t u b) w v := by
  have self {s : Shape} {α : Type} (x : s.Idx → α) (h : s.ShapeCasts s) : shapeCast s x h = x :=
    funext fun j => shapeCast_apply x h j j rfl
  unfold k0_pay2
  generalize k0_pay1 (F := Ideal) t u b = T
  unfold k0_pay1
  simp only [self]

/-! ## The rows looked up -/

/-- Rows looked up at the row numbers, in the shape asked for: at `(i, j, c)`, the row of `(i, j)`'s number. -/
theorem looked_at (t : FVec Ideal S128x128 .f32) (ids : IVec S4x8192 32) (i : Fin 4) (j : Fin 8192) (c : Fin 128) :
    shapeCast S4x8192x128 (looked (F := Ideal) t (shapeCast S256x128 ids shapeCasts_S4x8192_S256x128)) shapeCasts_S32768x128_S4x8192x128 (ix3 i j c)
      = t (ix2 ⟨(ids (ix2 i j)).toNat % 128, Nat.mod_lt _ (by decide)⟩ c) := by
  have hi := i.isLt
  have hj := j.isLt
  refine (shapeCast_apply _ _ _ (ix2 (⟨i.val * 8192 + j.val, by omega⟩ : Fin 32768) c) (by
    rw [Shape.rowMajor_val_two, Shape.rowMajor_val_three]; rfl)).trans ?_
  have e : numAt (F := Ideal) (shapeCast S256x128 ids shapeCasts_S4x8192_S256x128) (⟨i.val * 8192 + j.val, by omega⟩ : Fin 32768) = ids (ix2 i j) := by
    unfold numAt
    refine shapeCast_apply _ _ _ _ ?_
    rw [Shape.rowMajor_val_two, Shape.rowMajor_val_two]
    show i.val * 8192 + j.val = (i.val * 8192 + j.val) / 128 * 128 + (i.val * 8192 + j.val) % 128
    omega
  show t (ix2 ⟨(numAt (F := Ideal) _ (⟨i.val * 8192 + j.val, _⟩ : Fin 32768)).toNat % 128, _⟩ c) = _
  simp only [e]

/-! ## The three tables of the run -/

variable (m : (ℓ : Loc nD τ sig) → Buf (Elt Ideal) ℓ) (d : Dev nD)

/-- The first table, in its first 100 rows, is the embedding. -/
theorem t0_at (r : Fin 128) (hr : r.val < 100) (c : Fin 128) :
    (A m d).t0 (ix2 r c) = (m (d, dr main_arg1) : FVec Ideal S100x128 .f32) (ix2 ⟨r.val, hr⟩ c) := by
  rw [A_t0, W1_v2]
  exact padded_at _ _ r hr c

/-- The second table at an index, out of the first. -/
theorem t1_at (r c : Fin 128) :
    (A m d).t1 (ix2 r c) = (∑ k : Fin 128, (A m d).t0 (ix2 r k) * (m (d, dr main_arg2) : FVec Ideal S128x128 .f32) (ix2 c k))
      + (m (d, dr main_arg3) : FVec Ideal S128 .f32) (ix1 c) := by
  rw [A_t1, A_t0]
  unfold made1
  beta_reduce
  rw [W1_v3, W1_v4]
  exact step_at _ _ _ r c

/-- The third table at an index, out of the second. -/
theorem t2_at (r c : Fin 128) :
    (A m d).t2 (ix2 r c) = (∑ k : Fin 128, (A m d).t1 (ix2 r k) * (m (d, dr main_arg4) : FVec Ideal S128x128 .f32) (ix2 c k))
      + (m (d, dr main_arg5) : FVec Ideal S128 .f32) (ix1 c) := by
  rw [A_t2, A_t1]
  unfold made1 made2
  beta_reduce
  rw [pay2_eq, W1_v5, W1_v6]
  exact step_at _ _ _ r c

end Cert.Proof.KerVal

end
-- ==== Proof.lean ====
/-
  The proof of `Cert.Claim`: the three programs run with their arguments kept and every semaphore at zero, the kernel's two
  readings under the precondition, and over the extended reals the kernel leaves what the reference leaves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Range
public import proofs.«01_k».proof.Proof.Ends
public import proofs.«01_k».proof.Proof.EndsI
public import proofs.«01_k».proof.Proof.RefVal
public import proofs.«01_k».proof.Proof.KerVal
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem
open scoped BigOperators

attribute [local instance] Cert.Kernel.Gen.facts Cert.KernelIdeal.Gen.facts Cert.ReferenceIdeal.Gen.facts Cert.Pre_in_range.Gen.facts

/-- The kernel runs with its arguments kept. -/
theorem frame_kernel : Cert.quiescent_Kernel := fun m g hp =>
  (θ_run _ _ _).mono
    (fun _ h => ⟨fun c =>
      ⟨(h.1 c).2.2.2 _ (by decide), (h.1 c).2.2.2 _ (by decide), (h.1 c).2.2.2 _ (by decide), (h.1 c).2.2.2 _ (by decide),
        (h.1 c).2.2.2 _ (by decide), (h.1 c).2.2.2 _ (by decide)⟩, h.2⟩)
    (Run.run_ends (F := Bits) m g fun d i => Range.ids_lt _ _ _ _ _ _ (hp d) i)

/-- So does its reading over the extended reals. -/
theorem frame_ideal : Cert.quiescent_KernelIdeal := fun m g hp =>
  (θ_run _ _ _).mono
    (fun _ h => ⟨fun c =>
      ⟨(h.1 c).2.2.2 _ (by decide), (h.1 c).2.2.2 _ (by decide), (h.1 c).2.2.2 _ (by decide), (h.1 c).2.2.2 _ (by decide),
        (h.1 c).2.2.2 _ (by decide), (h.1 c).2.2.2 _ (by decide)⟩, h.2⟩)
    (RunI.run_ends (F := Ideal) m g fun d i => Range.ids_lt _ _ _ _ _ _ (hp d) i)

/-- And so does the reference, which has no semaphore. -/
theorem frame_reference : Cert.quiescent_ReferenceIdeal := fun m g _ =>
  (θ_run _ _ _).mono (fun r h => ⟨fun c => (h c).2.2.2, sem_eq_zero_of_no_sems rfl r.2⟩) (RefVal.run_ends m g)

section Values

open Cert.KernelIdeal Cert.Proof.RunI

variable (m : (ℓ : Loc nD τ sig) → Buf (Elt Ideal) ℓ) (d : Dev nD)

/-- What the kernel finds as row numbers, embedding, weights and biases. -/
abbrev inIds : IVec S4x8192 32 := m (d, dr main_arg0)
abbrev inE : FVec Ideal S100x128 .f32 := m (d, dr main_arg1)
abbrev inW1 : FVec Ideal S128x128 .f32 := m (d, dr main_arg2)
abbrev inB1 : FVec Ideal S128 .f32 := m (d, dr main_arg3)
abbrev inW2 : FVec Ideal S128x128 .f32 := m (d, dr main_arg4)
abbrev inB2 : FVec Ideal S128 .f32 := m (d, dr main_arg5)

/-- The rows of a table at the row numbers, in the shape asked for. -/
abbrev rows (t : FVec Ideal S128x128 .f32) : FVec Ideal S4x8192x128 .f32 :=
  shapeCast S4x8192x128 (looked (F := Ideal) t (A m d).ids) Gen.facts.shapeCasts_S32768x128_S4x8192x128

/-- Two arrays of results with the same elements are equal. -/
theorem ext3 {f g : FVec Ideal S4x8192x128 .f32} (e : ∀ (i : Fin 4) (j : Fin 8192) (c : Fin 128), f (ix3 i j c) = g (ix3 i j c)) : f = g :=
  funext fun x => by rw [eq_ix3 x]; exact e (x 0) (x 1) (x 2)

variable (h : ∀ i, (inIds m d i).toNat < 100)
include h

/-- With the row numbers below 100, a looked-up row is the table's row of that number. -/
theorem rows_at (t : FVec Ideal S128x128 .f32) (i : Fin 4) (j : Fin 8192) (c : Fin 128) :
    rows m d t (ix3 i j c) = t (ix2 ⟨(inIds m d (ix2 i j)).toNat, (h _).trans (by decide)⟩ c) := by
  unfold rows
  rw [A_ids]
  refine (KerVal.looked_at t (inIds m d) i j c).trans (congrArg (fun r => t (ix2 r c)) (Fin.ext ?_))
  exact Nat.mod_eq_of_lt ((h _).trans (by decide))

/-- The kernel's first result is the reference's. -/
theorem first_eq : rows m d (A m d).t0 = RefVal.taken (inIds m d) (inE m d) := by
  refine ext3 fun i j c => ?_
  rw [rows_at m d h, RefVal.taken_at h]
  exact KerVal.t0_at m d _ (h _) _

/-- The kernel's second result is the reference's. -/
theorem second_eq : rows m d (A m d).t1 = RefVal.affine (RefVal.taken (inIds m d) (inE m d)) (inW1 m d) (inB1 m d) := by
  rw [← first_eq m d h]
  refine ext3 fun i j c => ?_
  rw [rows_at m d h, RefVal.affine_at, KerVal.t1_at]
  simp only [rows_at m d h]

/-- The kernel's third result is the reference's. -/
theorem third_eq : rows m d (A m d).t2
    = RefVal.affine (RefVal.affine (RefVal.taken (inIds m d) (inE m d)) (inW1 m d) (inB1 m d)) (inW2 m d) (inB2 m d) := by
  rw [← second_eq m d h]
  refine ext3 fun i j c => ?_
  rw [rows_at m d h, RefVal.affine_at, KerVal.t2_at]
  simp only [rows_at m d h]

end Values

/-- Over the extended reals the kernel leaves what the reference leaves. -/
theorem values : Cert.algebraic_KernelIdeal_ReferenceIdeal := fun m g m' g' hp ha => by
  have hids (d : Dev Cert.KernelIdeal.nD) (i) : (inIds m d i).toNat < 100 := Range.ids_lt _ _ _ _ _ _ (hp d) i
  refine ⟨fun d => rows m d (RunI.A m d).t0, fun d => rows m d (RunI.A m d).t1, fun d => rows m d (RunI.A m d).t2,
    (θ_run _ _ _).mono (fun _ h c => ⟨(h.1 c).1, (h.1 c).2.1, (h.1 c).2.2.1,
      (h.1 c).2.2.2 _ (by decide), (h.1 c).2.2.2 _ (by decide), (h.1 c).2.2.2 _ (by decide), (h.1 c).2.2.2 _ (by decide),
      (h.1 c).2.2.2 _ (by decide), (h.1 c).2.2.2 _ (by decide)⟩) (RunI.run_ends (F := Ideal) m g hids),
    (θ_run _ _ _).mono (fun _ h c => ?_) (RefVal.run_ends m' g')⟩
  obtain ⟨h0, h1, h2, hargs⟩ := h c
  obtain ⟨a0, a1, a2, a3, a4, a5⟩ := ha c
  rw [a0, a1] at h0
  rw [a0, a1, a2, a3] at h1
  rw [a0, a1, a2, a3, a4, a5] at h2
  exact ⟨h0.trans (first_eq m c (hids c)).symm, h1.trans (second_eq m c (hids c)).symm, h2.trans (third_eq m c (hids c)).symm, hargs⟩

/-- All the claims together. -/
theorem claim : Cert.Claim :=
  ⟨Cert.Kernel.Gen.facts, Cert.KernelIdeal.Gen.facts, Cert.ReferenceIdeal.Gen.facts, Cert.Pre_in_range.Gen.facts,
    frame_kernel, frame_ideal, frame_reference, trivial, values⟩

end Cert.Proof

end
